-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_is_zero [hPre_bias_is_zero : Cert.Pre_bias_is_zero.Facts] (m : (ℓ : Loc Cert.KernelIdeal.nD Cert.KernelIdeal.τ Cert.KernelIdeal.sig) → Buf (Elt Ideal) ℓ) : Prop :=
  ∀ c : Dev Cert.KernelIdeal.nD,
    (Cert.Pre_bias_is_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_is_zero [hPre_bias_is_zero : Cert.Pre_bias_is_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_is_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bias_is_zero [hKernelIdeal : Cert.KernelIdeal.Facts] [hPre_bias_is_zero : Cert.Pre_bias_is_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_is_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bias_is_zero [hReferenceIdeal : Cert.ReferenceIdeal.Facts] [hPre_bias_is_zero : Cert.Pre_bias_is_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_is_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_bias_is_zero [hKernelIdeal : Cert.KernelIdeal.Facts] [hReferenceIdeal : Cert.ReferenceIdeal.Facts] [hPre_bias_is_zero : Cert.Pre_bias_is_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_is_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_bias_is_zero : Cert.Pre_bias_is_zero.Facts),
    quiescent_Kernel (hKernel := hKernel)
    ∧ quiescent_KernelIdeal (hKernelIdeal := hKernelIdeal)
    ∧ quiescent_KernelIdeal_pre_bias_is_zero (hKernelIdeal := hKernelIdeal) (hPre_bias_is_zero := hPre_bias_is_zero)
    ∧ quiescent_ReferenceIdeal (hReferenceIdeal := hReferenceIdeal)
    ∧ quiescent_ReferenceIdeal_pre_bias_is_zero (hReferenceIdeal := hReferenceIdeal) (hPre_bias_is_zero := hPre_bias_is_zero)
    ∧ preserves_Kernel_KernelIdeal
    ∧ algebraic_KernelIdeal_ReferenceIdeal_pre_bias_is_zero (hKernelIdeal := hKernelIdeal) (hReferenceIdeal := hReferenceIdeal) (hPre_bias_is_zero := hPre_bias_is_zero)
-- ==== Pre_bias_is_zero.lean ====
abbrev S197x256x768 : Shape := ⟨3, ![197, 256, 768]⟩
abbrev S16x768x64 : Shape := ⟨3, ![16, 768, 64]⟩
abbrev S16x64 : Shape := ⟨2, ![16, 64]⟩
abbrev S768x768 : Shape := ⟨2, ![768, 768]⟩
abbrev S768 : Shape := ⟨1, ![768]⟩
abbrev S_ : Shape := ⟨0, ![]⟩

class Facts : Prop where
  bcast_S_S768 : S_.BroadcastsInDim S768 (![] : Fin 0 → Fin S768.rank)

variable [Facts]

def fn {F : FTy → Type} [FloatOps F] (main_arg0 : FVec F S197x256x768 .f32) (main_arg1 : FVec F S16x768x64 .f32) (main_arg2 : FVec F S16x64 .f32) (main_arg3 : FVec F S768x768 .f32) (main_arg4 : FVec F S768 .f32) : IVec S768 1 :=
  let main_cst : FVec F S_ .f32 := constant S_ .f32 0x00000000#32
  let main_v0 : FVec F S768 .f32 := broadcastInDim S768 ![] bcast_S_S768 main_cst
  let main_v1 : IVec S768 1 := cmpf .oeq main_arg4 main_v0
  main_v1
-- ==== Kernel.lean ====
abbrev S197x256x768 : Shape := ⟨3, ![197, 256, 768]⟩
abbrev S16x768x64 : Shape := ⟨3, ![16, 768, 64]⟩
abbrev S16x64 : Shape := ⟨2, ![16, 64]⟩
abbrev S768x768 : Shape := ⟨2, ![768, 768]⟩
abbrev S768 : Shape := ⟨1, ![768]⟩
abbrev S50432x768 : Shape := ⟨2, ![50432, 768]⟩
abbrev S768x16x64 : Shape := ⟨3, ![768, 16, 64]⟩
abbrev S768x1024 : Shape := ⟨2, ![768, 1024]⟩
abbrev S16x64x768 : Shape := ⟨3, ![16, 64, 768]⟩
abbrev S1024x768 : Shape := ⟨2, ![1024, 768]⟩
abbrev S256x16 : Shape := ⟨2, ![256, 16]⟩
abbrev S_ : Shape := ⟨0, ![]⟩
abbrev S3152x768 : Shape := ⟨2, ![3152, 768]⟩
abbrev S256x768 : Shape := ⟨2, ![256, 768]⟩
abbrev S256x1024 : Shape := ⟨2, ![256, 1024]⟩
abbrev S256x64 : Shape := ⟨2, ![256, 64]⟩
abbrev S64x768 : Shape := ⟨2, ![64, 768]⟩
abbrev S256 : Shape := ⟨1, ![256]⟩
abbrev S256x1 : Shape := ⟨2, ![256, 1]⟩

abbrev nBuf : Space → Nat
  | .hbm => 22
  | .vmem => 10
  | .smem => 0
  | _ => 0

abbrev bufTy : (tb : Table) → Fin (tcTables nBuf tb) → BufTy
  | .hbm, ⟨0, _⟩ => ⟨S197x256x768, .f32⟩
  | .hbm, ⟨1, _⟩ => ⟨S16x768x64, .f32⟩
  | .hbm, ⟨2, _⟩ => ⟨S16x64, .f32⟩
  | .hbm, ⟨3, _⟩ => ⟨S768x768, .f32⟩
  | .hbm, ⟨4, _⟩ => ⟨S768, .f32⟩
  | .hbm, ⟨5, _⟩ => ⟨S50432x768, .f32⟩
  | .hbm, ⟨6, _⟩ => ⟨S768x768, .f32⟩
  | .hbm, ⟨7, _⟩ => ⟨S768x768, .bf16⟩
  | .hbm, ⟨8, _⟩ => ⟨S768x16x64, .f32⟩
  | .hbm, ⟨9, _⟩ => ⟨S768x1024, .f32⟩
  | .hbm, ⟨10, _⟩ => ⟨S768x1024, .bf16⟩
  | .hbm, ⟨11, _⟩ => ⟨S16x64x768, .f32⟩
  | .hbm, ⟨12, _⟩ => ⟨S1024x768, .f32⟩
  | .hbm, ⟨13, _⟩ => ⟨S1024x768, .bf16⟩
  | .hbm, ⟨14, _⟩ => ⟨S50432x768, .f32⟩
  | .hbm, ⟨15, _⟩ => ⟨S256x16, .f32⟩
  | .hbm, ⟨16, _⟩ => ⟨S256x16, .i32⟩
  | .hbm, ⟨17, _⟩ => ⟨S_, .i32⟩
  | .hbm, ⟨18, _⟩ => ⟨S256x16, .i32⟩
  | .hbm, ⟨19, _⟩ => ⟨S256x16, .i1⟩
  | .hbm, ⟨20, _⟩ => ⟨S256x16, .i1⟩
  | .hbm, ⟨21, _⟩ => ⟨S197x256x768, .f32⟩
  | .local _ .vmem, ⟨0, _⟩ => ⟨S3152x768, .f32⟩
  | .local _ .vmem, ⟨1, _⟩ => ⟨S3152x768, .f32⟩
  | .local _ .vmem, ⟨2, _⟩ => ⟨S768x768, .bf16⟩
  | .local _ .vmem, ⟨3, _⟩ => ⟨S256x16, .i32⟩
  | .local _ .vmem, ⟨4, _⟩ => ⟨S3152x768, .f32⟩
  | .local _ .vmem, ⟨5, _⟩ => ⟨S3152x768, .f32⟩
  | .local _ .vmem, ⟨6, _⟩ => ⟨S256x768, .f32⟩
  | .local _ .vmem, ⟨7, _⟩ => ⟨S768x1024, .bf16⟩
  | .local _ .vmem, ⟨8, _⟩ => ⟨S1024x768, .bf16⟩
  | .local _ .vmem, ⟨9, _⟩ => ⟨S256x16, .f32⟩
  | _, _ => ⟨S197x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9_0 : Ref sig .tc := ⟨.hbm, 14, rfl⟩
abbrev main_v0_1 : Ref sig .tc := ⟨.hbm, 15, rfl⟩
abbrev main_call0_v9_2 : Ref sig .tc := ⟨.hbm, 16, rfl⟩
abbrev main_call0_c : Ref sig .tc := ⟨.hbm, 17, rfl⟩
abbrev main_call0_v10 : Ref sig .tc := ⟨.hbm, 18, rfl⟩
abbrev main_call0_v11 : Ref sig .tc := ⟨.hbm, 19, rfl⟩
abbrev main_v0_2 : Ref sig .tc := ⟨.hbm, 20, rfl⟩
abbrev main_v0_0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let c0_i32_6 : BitVec 32 := 0#32
  let v14 : BitVec 1 := Scalar.cmpi .sgt arg0 c0_i32_6
  let v15 : BitVec 1 := Scalar.andi v13 v14
  let v16 : BitVec 32 := Scalar.extui v15
  let c0_i32_7 : BitVec 32 := 0#32
  let v17 : BitVec 1 := Scalar.cmpi .ne v16 c0_i32_7
  v17

def k0_off1 (i : grid0.Coords) : Fin 2 → Nat :=
  let arg0 : BitVec 32 := BitVec.ofNat 32 (i 0).val
  let c2_i32_34 : BitVec 32 := 2#32
  let v62 : BitVec 32 := Scalar.subi arg0 c2_i32_34
  let c3152_i32 : BitVec 32 := 3152#32
  let v63 : BitVec 32 := Scalar.muli v62 c3152_i32
  let c0_i32_35 : BitVec 32 := 0#32
  ![v63.toNat, 0]
def k0_cond3 (i : grid0.Coords) : BitVec 1 :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_14 : BitVec 32 := 1#32
  let v28 : BitVec 1 := Scalar.cmpi .eq v27 c1_i32_14
  let c2_i32_15 : BitVec 32 := 2#32
  let v29 : BitVec 1 := Scalar.cmpi .sgt arg0 c2_i32_15
  let v30 : BitVec 1 := Scalar.andi v28 v29
  let v31 : BitVec 32 := Scalar.extui v30
  let c0_i32_16 : BitVec 32 := 0#32
  let v32 : BitVec 1 := Scalar.cmpi .ne v31 c0_i32_16
  v32

def k0_off2 (i : grid0.Coords) : Fin 2 → Nat :=
  let arg0 : BitVec 32 := BitVec.ofNat 32 (i 0).val
  let c2_i32_34 : BitVec 32 := 2#32
  let v62 : BitVec 32 := Scalar.subi arg0 c2_i32_34
  let c3152_i32 : BitVec 32 := 3152#32
  let v63 : BitVec 32 := Scalar.muli v62 c3152_i32
  let c0_i32_35 : BitVec 32 := 0#32
  ![v63.toNat, 0]
def k0_cond4 (i : grid0.Coords) : BitVec 1 :=
  let arg0 : BitVec 32 := BitVec.ofNat 32 (i 0).val
  let c2_i32_17 : BitVec 32 := 2#32
  let c0_i32_18 : BitVec 32 := 0#32
  let v33 : BitVec 1 := Scalar.cmpi .eq c2_i32_17 c0_i32_18
  let c1_i32_19 : BitVec 32 := 1#32
  let v34 : BitVec 32 := Scalar.select v33 c1_i32_19 c2_i32_17
  let v35 : BitVec 32 := Scalar.remsi arg0 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c0_i32_23 : BitVec 32 := 0#32
  let v43 : BitVec 1 := Scalar.cmpi .eq v42 c0_i32_23
  let v44 : BitVec 32 := Scalar.extui v43
  let c0_i32_24 : BitVec 32 := 0#32
  let v45 : BitVec 1 := Scalar.cmpi .ne v44 c0_i32_24
  v45

def k0_off3 (i : grid0.Coords) : Fin 2 → Nat :=
  let arg0 : BitVec 32 := BitVec.ofNat 32 (i 0).val
  let c3152_i32 : BitVec 32 := 3152#32
  let v71 : BitVec 32 := Scalar.muli arg0 c3152_i32
  let c0_i32_39 : BitVec 32 := 0#32
  ![v71.toNat, 0]
def k0_cond5 (i : grid0.Coords) : BitVec 1 :=
  let arg0 : BitVec 32 := BitVec.ofNat 32 (i 0).val
  let c2_i32_25 : BitVec 32 := 2#32
  let c0_i32_26 : BitVec 32 := 0#32
  let v46 : BitVec 1 := Scalar.cmpi .eq c2_i32_25 c0_i32_26
  let c1_i32_27 : BitVec 32 := 1#32
  let v47 : BitVec 32 := Scalar.select v46 c1_i32_27 c2_i32_25
  let v48 : BitVec 32 := Scalar.remsi arg0 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c1_i32_31 : BitVec 32 := 1#32
  let v56 : BitVec 1 := Scalar.cmpi .eq v55 c1_i32_31
  let v57 : BitVec 32 := Scalar.extui v56
  let c0_i32_32 : BitVec 32 := 0#32
  let v58 : BitVec 1 := Scalar.cmpi .ne v57 c0_i32_32
  v58

def k0_off4 (i : grid0.Coords) : Fin 2 → Nat :=
  let arg0 : BitVec 32 := BitVec.ofNat 32 (i 0).val
  let c3152_i32 : BitVec 32 := 3152#32
  let v71 : BitVec 32 := Scalar.muli arg0 c3152_i32
  let c0_i32_39 : BitVec 32 := 0#32
  ![v71.toNat, 0]
def k0_cond6 (i : grid0.Coords) : BitVec 1 :=
  let arg0 : BitVec 32 := BitVec.ofNat 32 (i 0).val
  let c15_i32 : BitVec 32 := 15#32
  let v59 : BitVec 1 := Scalar.cmpi .eq arg0 c15_i32
  let v60 : BitVec 32 := Scalar.extui v59
  let c0_i32_33 : BitVec 32 := 0#32
  let v61 : BitVec 1 := Scalar.cmpi .ne v60 c0_i32_33
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3152x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S197x256x768 : Shape := ⟨3, ![197, 256, 768]⟩
abbrev S16x768x64 : Shape := ⟨3, ![16, 768, 64]⟩
abbrev S16x64 : Shape := ⟨2, ![16, 64]⟩
abbrev S768x768 : Shape := ⟨2, ![768, 768]⟩
abbrev S768 : Shape := ⟨1, ![768]⟩
abbrev S1x256x768 : Shape := ⟨3, ![1, 256, 768]⟩
abbrev S256x768 : Shape := ⟨2, ![256, 768]⟩
abbrev S256x16x64 : Shape := ⟨3, ![256, 16, 64]⟩
abbrev S16x768x256 : Shape := ⟨3, ![16, 768, 256]⟩
abbrev S256x16x768 : Shape := ⟨3, ![256, 16, 768]⟩
abbrev S256x1x768 : Shape := ⟨3, ![256, 1, 768]⟩
abbrev S_ : Shape := ⟨0, ![]⟩
abbrev S256x16 : Shape := ⟨2, ![256, 16]⟩
abbrev S256 : Shape := ⟨1, ![256]⟩
abbrev S256x1 : Shape := ⟨2, ![256, 1]⟩
abbrev S1x1x768 : Shape := ⟨3, ![1, 1, 768]⟩

abbrev nBuf : Space → Nat
  | .hbm => 83
  | .vmem => 0
  | .smem => 0
  | _ => 0

abbrev bufTy : (tb : Table) → Fin (tcTables nBuf tb) → BufTy
  | .hbm, ⟨0, _⟩ => ⟨S197x256x768, .f32⟩
  | .hbm, ⟨1, _⟩ => ⟨S16x768x64, .f32⟩
  | .hbm, ⟨2, _⟩ => ⟨S16x64, .f32⟩
  | .hbm, ⟨3, _⟩ => ⟨S768x768, .f32⟩
  | .hbm, ⟨4, _⟩ => ⟨S768, .f32⟩
  | .hbm, ⟨5, _⟩ => ⟨S1x256x768, .f32⟩
  | .hbm, ⟨6, _⟩ => ⟨S256x768, .f32⟩
  | .hbm, ⟨7, _⟩ => ⟨S256x16x64, .f32⟩
  | .hbm, ⟨8, _⟩ => ⟨S16x768x256, .f32⟩
  | .hbm, ⟨9, _⟩ => ⟨S256x16x768, .f32⟩
  | .hbm, ⟨10, _⟩ => ⟨S256x1x768, .f32⟩
  | .hbm, ⟨11, _⟩ => ⟨S256x16x768, .f32⟩
  | .hbm, ⟨12, _⟩ => ⟨S256x16x768, .f32⟩
  | .hbm, ⟨13, _⟩ => ⟨S256x16x768, .f32⟩
  | .hbm, ⟨14, _⟩ => ⟨S_, .f32⟩
  | .hbm, ⟨15, _⟩ => ⟨S256x16, .f32⟩
  | .hbm, ⟨16, _⟩ => ⟨S_, .f32⟩
  | .hbm, ⟨17, _⟩ => ⟨S256x16, .f32⟩
  | .hbm, ⟨18, _⟩ => ⟨S256x16, .f32⟩
  | .hbm, ⟨19, _⟩ => ⟨S256x16, .f32⟩
  | .hbm, ⟨20, _⟩ => ⟨S256x16, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S_, .i32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x16, .f32⟩
  | .hbm, ⟨35, _⟩ => ⟨S256x16, .f32⟩
  | .hbm, ⟨36, _⟩ => ⟨S256x16, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S256, .f32⟩
  | .hbm, ⟨42, _⟩ => ⟨S256x1, .f32⟩
  | .hbm, ⟨43, _⟩ => ⟨S256x1, .f32⟩
  | .hbm, ⟨44, _⟩ => ⟨S256x1, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1, .f32⟩
  | .hbm, ⟨52, _⟩ => ⟨S_, .f32⟩
  | .hbm, ⟨53, _⟩ => ⟨S256x1, .f32⟩
  | .hbm, ⟨54, _⟩ => ⟨S256x1, .f32⟩
  | .hbm, ⟨55, _⟩ => ⟨S256x16, .f32⟩
  | .hbm, ⟨56, _⟩ => ⟨S256x16, .f32⟩
  | .hbm, ⟨57, _⟩ => ⟨S256x16, .f32⟩
  | .hbm, ⟨58, _⟩ => ⟨S256x16, .f32⟩
  | .hbm, ⟨59, _⟩ => ⟨S_, .f32⟩
  | .hbm, ⟨60, _⟩ => ⟨S256x16, .f32⟩
  | .hbm, ⟨61, _⟩ => ⟨S256x16, .f32⟩
  | .hbm, ⟨62, _⟩ => ⟨S_, .f32⟩
  | .hbm, ⟨63, _⟩ => ⟨S256, .f32⟩
  | .hbm, ⟨64, _⟩ => ⟨S_, .f32⟩
  | .hbm, ⟨65, _⟩ => ⟨S256, .f32⟩
  | .hbm, ⟨66, _⟩ => ⟨S256, .f32⟩
  | .hbm, ⟨67, _⟩ => ⟨S256x1, .f32⟩
  | .hbm, ⟨68, _⟩ => ⟨S256x16, .f32⟩
  | .hbm, ⟨69, _⟩ => ⟨S256x16, .f32⟩
  | .hbm, ⟨70, _⟩ => ⟨S256x16, .f32⟩
  | .hbm, ⟨71, _⟩ => ⟨S_, .f32⟩
  | .hbm, ⟨72, _⟩ => ⟨S256, .f32⟩
  | .hbm, ⟨73, _⟩ => ⟨S256x1, .f32⟩
  | .hbm, ⟨74, _⟩ => ⟨S256x16, .f32⟩
  | .hbm, ⟨75, _⟩ => ⟨S256x16, .f32⟩
  | .hbm, ⟨76, _⟩ => ⟨S_, .f32⟩
  | .hbm, ⟨77, _⟩ => ⟨S256x16, .f32⟩
  | .hbm, ⟨78, _⟩ => ⟨S256x16, .i1⟩
  | .hbm, ⟨79, _⟩ => ⟨S197x256x768, .f32⟩
  | .hbm, ⟨80, _⟩ => ⟨S1x1x768, .f32⟩
  | .hbm, ⟨81, _⟩ => ⟨S197x256x768, .f32⟩
  | .hbm, ⟨82, _⟩ => ⟨S197x256x768, .f32⟩
  | _, _ => ⟨S197x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_cst_0 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_cst_1 : Ref sig .tc := ⟨.hbm, 38, rfl⟩
abbrev main_call0_call0_v8 : Ref sig .tc := ⟨.hbm, 39, rfl⟩
abbrev main_call0_call0_cst_2 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_v12 : Ref sig .tc := ⟨.hbm, 44, rfl⟩
abbrev main_call0_call0_cst_3 : Ref sig .tc := ⟨.hbm, 45, rfl⟩
abbrev main_call0_call0_v13 : Ref sig .tc := ⟨.hbm, 46, rfl⟩
abbrev main_call0_call0_cst_4 : Ref sig .tc := ⟨.hbm, 47, rfl⟩
abbrev main_call0_call0_call0_v0 : Ref sig .tc := ⟨.hbm, 48, rfl⟩
abbrev main_call0_call0_call0_v1 : Ref sig .tc := ⟨.hbm, 49, rfl⟩
abbrev main_call0_v0 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_4 : Ref sig .tc := ⟨.hbm, 59, rfl⟩
abbrev main_v25 : Ref sig .tc := ⟨.hbm, 60, rfl⟩
abbrev main_v26 : Ref sig .tc := ⟨.hbm, 61, rfl⟩
abbrev main_cst_5 : Ref sig .tc := ⟨.hbm, 62, rfl⟩
abbrev main_v27 : Ref sig .tc := ⟨.hbm, 63, rfl⟩
abbrev main_cst_6 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_7 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_8 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩

abbrev nD : Nat := 1
abbrev τ : Topo := Topo.v7x

variable {F : FTy → Type} [FloatOps F]
-- ==== Proof.Names.lean ====
/-
  The memrefs the kernel's body addresses, by name: the blocks of the result array it streams its product into,
  and the closed forms of the offsets and conditions the body computes from the grid point.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.VecWindow
public import Idealize.ShloMosaic.Lib.Ring.WriteBehind

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The blocks of the result array -/

/-- The array the product is streamed into, whole. -/
abbrev outM : Memref sig .tc .hbm S50432x768 .f32 := Memref.whole main_call0_v9_0

/-- Block `u` starts at row `3152 * u`. -/
abbrev blkOff (u : Fin 16) : Fin 2 → Nat := ![3152 * u.val, 0]
/-- Every block lies within the array. -/
theorem blkOff_inb (u : Fin 16) : ∀ a, blkOff u a + S3152x768.size a ≤ S50432x768.size a := by
  have := u.isLt; intro a; fin_cases a
  · show 3152 * u.val + 3152 ≤ 50432; omega
  · show 0 + 768 ≤ 768; omega
/-- Block `u` of the array: 3152 rows of it. -/
def outBlk (u : Fin 16) : Memref sig .tc .hbm S3152x768 .f32 :=
  outM.slice (Rect.unit (s := S50432x768) (blkOff u) S3152x768.size (blkOff_inb u)) (fun _ => rfl)

/-- A slice of the array at a block's offset is that block. -/
theorem outBlk_congr {off : Fin 2 → Nat} {u : Fin 16} (e : off = blkOff u) (hh hs) :
    outM.slice (Rect.unit (s := S50432x768) off S3152x768.size hh) hs = outBlk u :=
  Memref.slice_unit_congr _ e _ _ hs (fun _ => rfl)

/-! ## The body's offsets and slices in closed form -/

/-- The block an even point sends out is its own; -/
theorem off3_eq (i : grid0.Coords) : k0_off3 i = blkOff (Ring.bk 16 (i 0).val) := by
  revert i; decide
/-- so is an odd point's. -/
theorem off4_eq (i : grid0.Coords) : k0_off4 i = blkOff (Ring.bk 16 (i 0).val) := by
  revert i; decide
/-- The block an even point waits for is the one of two points before; -/
theorem off1_eq (i : grid0.Coords) (h : k0_cond2 i = 1#1) : k0_off1 i = blkOff (Ring.bk 16 ((i 0).val - 2)) := by
  revert i; decide
/-- and so at an odd point. -/
theorem off2_eq (i : grid0.Coords) (h : k0_cond3 i = 1#1) : k0_off2 i = blkOff (Ring.bk 16 ((i 0).val - 2)) := by
  revert i; decide

/-- The slice an even point sends to, by name. -/
@[sl_canon] theorem outC3 (i : grid0.Coords) (hh hs) :
    outM.slice (Rect.unit (s := S50432x768) (k0_off3 i) S3152x768.size hh) hs = outBlk (Ring.bk 16 (i 0).val) := outBlk_congr (off3_eq i) _ _
/-- The slice an odd point sends to, by name. -/
@[sl_canon] theorem outC4 (i : grid0.Coords) (hh hs) :
    outM.slice (Rect.unit (s := S50432x768) (k0_off4 i) S3152x768.size hh) hs = outBlk (Ring.bk 16 (i 0).val) := outBlk_congr (off4_eq i) _ _
/-- The slice an even point waits for, by name. -/
@[sl_canon] theorem outC1 (i : grid0.Coords) (h : k0_cond2 i = 1#1) (hh hs) :
    outM.slice (Rect.unit (s := S50432x768) (k0_off1 i) S3152x768.size hh) hs = outBlk (Ring.bk 16 ((i 0).val - 2)) := outBlk_congr (off1_eq i h) _ _
/-- The slice an odd point waits for, by name. -/
@[sl_canon] theorem outC2 (i : grid0.Coords) (h : k0_cond3 i = 1#1) (hh hs) :
    outM.slice (Rect.unit (s := S50432x768) (k0_off2 i) S3152x768.size hh) hs = outBlk (Ring.bk 16 ((i 0).val - 2)) := outBlk_congr (off2_eq i h) _ _
/-- The last point's drain waits for block 14, -/
@[sl_canon] theorem outC14 (hh hs) :
    outM.slice (Rect.unit (s := S50432x768) ![44128, 0] S3152x768.size hh) hs = outBlk 14 := outBlk_congr (by decide) _ _
/-- and for block 15. -/
@[sl_canon] theorem outC15 (hh hs) :
    outM.slice (Rect.unit (s := S50432x768) ![47280, 0] S3152x768.size hh) hs = outBlk 15 := outBlk_congr (by decide) _ _

/-- The first branch's condition: the point is the first one. -/
abbrev cond1 (i : grid0.Coords) : BitVec 1 :=
  Scalar.cmpi .ne (Scalar.extui (Scalar.cmpi .eq (BitVec.ofNat 32 (i 0).val) 0#32) : BitVec 32) 0#32

/-! ## What the body computes -/

/-- The first block's product, rows of `x` against `w`. -/
abbrev prod (x : S3152x768.Idx → Elt F .f32) (w : S768x768.Idx → Elt F .bf16) : S3152x768.Idx → Elt F .f32 := k0_pay1 x w
/-- The odd points compute the same product. -/
theorem prod_odd (x : S3152x768.Idx → Elt F .f32) (w : S768x768.Idx → Elt F .bf16) : k0_pay2 x w = prod x w := rfl

/-- The routing tokens: the first 256 rows of the first block. -/
def toks (x : S3152x768.Idx → Elt F .f32) : S256x768.Idx → Elt F .f32 :=
  k0_pay25 (VecWindow.window x ![0, 0] S256x768.size inb_S3152x768_S256x768_0_0)

/-- The routing's logits less their row maximum, from the tokens and the experts' two factors. -/
def logits (tok : S256x768.Idx → Elt F .f32) (v2 : S768x1024.Idx → Elt F .bf16) (vt : S1024x768.Idx → Elt F .bf16) : FVec F S256x16 .f32 :=
  k0_pay24 tok (k0_pay6 tok v2)
    (k0_pay7 tok v2 (VecWindow.window vt ![0, 0] S64x768.size inb_S1024x768_S64x768_0_0))
    (k0_pay8 tok v2 (VecWindow.window vt ![64, 0] S64x768.size inb_S1024x768_S64x768_64_0))
    (k0_pay9 tok v2 (VecWindow.window vt ![128, 0] S64x768.size inb_S1024x768_S64x768_128_0))
    (k0_pay10 tok v2 (VecWindow.window vt ![192, 0] S64x768.size inb_S1024x768_S64x768_192_0))
    (k0_pay12 tok (k0_pay11 tok v2) (VecWindow.window vt ![256, 0] S64x768.size inb_S1024x768_S64x768_256_0))
    (k0_pay13 tok (k0_pay6 tok v2) (VecWindow.window vt ![320, 0] S64x768.size inb_S1024x768_S64x768_320_0))
    (k0_pay14 tok (k0_pay6 tok v2) (VecWindow.window vt ![384, 0] S64x768.size inb_S1024x768_S64x768_384_0))
    (k0_pay15 tok (k0_pay6 tok v2) (VecWindow.window vt ![448, 0] S64x768.size inb_S1024x768_S64x768_448_0))
    (k0_pay16 tok (k0_pay6 tok v2) (VecWindow.window vt ![512, 0] S64x768.size inb_S1024x768_S64x768_512_0))
    (k0_pay18 tok (k0_pay17 (k0_pay6 tok v2)) (VecWindow.window vt ![576, 0] S64x768.size inb_S1024x768_S64x768_576_0))
    (k0_pay19 tok (k0_pay6 tok v2) (VecWindow.window vt ![640, 0] S64x768.size inb_S1024x768_S64x768_640_0))
    (k0_pay20 tok (k0_pay6 tok v2) (VecWindow.window vt ![704, 0] S64x768.size inb_S1024x768_S64x768_704_0))
    (k0_pay21 tok (k0_pay6 tok v2) (VecWindow.window vt ![768, 0] S64x768.size inb_S1024x768_S64x768_768_0))
    (k0_pay22 tok (k0_pay6 tok v2) (VecWindow.window vt ![832, 0] S64x768.size inb_S1024x768_S64x768_832_0))
    (k0_pay23 (k0_pay6 tok v2))
    (VecWindow.window vt ![896, 0] S64x768.size inb_S1024x768_S64x768_896_0)
    (VecWindow.window vt ![960, 0] S64x768.size inb_S1024x768_S64x768_960_0)

/-! ## What the body holds of its own transfers -/

/-- A block in flight from a staging buffer on a semaphore: what lands reads `P`. -/
abbrev inflP (c : Dev nD) (sm : SemLoc sig) (ob : Memref sig .tc .vmem S3152x768 .f32) (u : Fin 16) (P : S3152x768.Idx → Elt F .f32) : sProp 𝕄 :=
  iprop(∃ f, ∃ g, ⌜(outBlk u).view.read (Elt F) g = P⌝ ∗ Transfers.Flight countersEmb (c : Thread nD τ) sm () 302592
    iprop(((outBlk u).view.loc (c : Thread nD τ) ↦[(outBlk u).view.set]{fullShare} g) ∗ (ob.view.loc (c : Thread nD τ) ↦[ob.view.set]{fullShare} f)))
/-- A staging buffer at rest: held at some contents, its semaphore at zero. -/
abbrev freeP (c : Dev nD) (sm : SemLoc sig) (ob : Memref sig .tc .vmem S3152x768 .f32) : sProp 𝕄 :=
  iprop((∃ f, ob.view.loc (c : Thread nD τ) ↦[ob.view.set]{fullShare} f) ∗ semVal ((c : Thread nD τ), sm) 0)
/-- Block `u` of the array at some contents. -/
abbrev blkP (c : Dev nD) (u : Fin 16) : sProp 𝕄 :=
  iprop(∃ g, (outBlk u).view.loc (c : Thread nD τ) ↦[(outBlk u).view.set]{fullShare} g)
/-- An array in flight, whole, into a buffer on a semaphore: what lands reads `X`, the source keeps its contents. -/
abbrev copyP (c : Dev nD) (sm : SemLoc sig) (N : ℕ) {S : Shape} {e : EltTy} (src : Memref sig .tc .hbm S e) (dst : Memref sig .tc .vmem S e)
    (X : S.Idx → Elt F e) (h : Buf (Elt F) (src.view.loc (c : Thread nD τ))) : sProp 𝕄 :=
  iprop(∃ f, ⌜dst.view.read (Elt F) f = X⌝ ∗ Transfers.Flight countersEmb (c : Thread nD τ) sm () N
    iprop((dst.view.loc (c : Thread nD τ) ↦[dst.view.set]{fullShare} f) ∗ (src.view.loc (c : Thread nD τ) ↦[src.view.set]{fullShare} h)))

end Cert.KernelIdeal.Hand

end
-- ==== Proof.Runs.lean ====
/-
  The kernel's body at a middle point: wait for the block sent two points before, compute this point's product
  into the freed staging buffer, send it to its block.
-/
module

public import proofs.«01_k».proof.Proof.Names

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
    (arg1 : Memref sig .tc .vmem S3152x768 .f32) (harg1 : arg1.IsWhole)
    (arg2 : Memref sig .tc .vmem S768x768 .bf16) (harg2 : arg2.IsWhole)
    (arg3 : Memref sig .tc .hbm S768x1024 .bf16) (harg3 : arg3.IsWhole)
    (arg4 : Memref sig .tc .hbm S1024x768 .bf16) (harg4 : arg4.IsWhole)
    (arg6 : Memref sig .tc .hbm S256x16 .f32) (harg6 : arg6.IsWhole)
    (arg7 : Memref sig .tc .vmem S256x16 .i32) (harg7 : arg7.IsWhole)
    (arg8 : Memref sig .tc .vmem S3152x768 .f32) (harg8 : arg8.IsWhole)
    (arg9 : Memref sig .tc .vmem S3152x768 .f32) (harg9 : arg9.IsWhole)
    (arg10 : Memref sig .tc .vmem S256x768 .f32) (harg10 : arg10.IsWhole)
    (arg11 : Memref sig .tc .vmem S768x1024 .bf16) (harg11 : arg11.IsWhole)
    (arg12 : Memref sig .tc .vmem S1024x768 .bf16) (harg12 : arg12.IsWhole)
    (arg13 : Memref sig .tc .vmem S256x16 .f32) (harg13 : arg13.IsWhole)
    (X1 : S3152x768.Idx → Elt F .f32) (X2 : S768x768.Idx → Elt F .bf16)
    (W : Waits sig Unit)

/-- The body on the memrefs it is called with. -/
abbrev theBody : Prog (TpuEff nD τ sig (Elt F) Λ₀ .tc) PUnit :=
  cc0__fused_kernel i arg1 harg1 arg2 harg2 arg3 harg3 arg4 harg4 (Memref.whole main_call0_v9_0) (Memref.isWhole_whole _) arg6 harg6 arg7 harg7
    arg8 harg8 arg9 harg9 arg10 harg10 arg11 harg11 arg12 harg12 arg13 harg13 cc0_scratch6 cc0_scratch7 cc0_scratch8 cc0_scratch9 cc0_scratch10

/-- An even point past the first: the block of two points before lands, this point's goes out from the first staging buffer. -/
theorem run_even (h1 : ¬ cond1 i = 1#1)
    (h2 : k0_cond2 i = 1#1) (h3 : ¬ k0_cond3 i = 1#1) (h4 : k0_cond4 i = 1#1) (h5 : ¬ k0_cond5 i = 1#1) (h6 : ¬ k0_cond6 i = 1#1)
    (P : S3152x768.Idx → Elt F .f32) (K : PUnit → sProp 𝕄) :
    iprop(owns (c : Thread nD τ) arg1 fullShare X1 ∗ owns (c : Thread nD τ) arg2 fullShare X2
        ∗ blkP (F := F) c (Ring.bk 16 (i 0).val) ∗ inflP c (SemLoc.dma 4) arg8 (Ring.bk 16 ((i 0).val - 2)) P
        ∗ owes (c : Thread nD τ) 0 W
        ∗ (iprop(owns (c : Thread nD τ) arg1 fullShare X1 ∗ owns (c : Thread nD τ) arg2 fullShare X2
            ∗ owns (c : Thread nD τ) (outBlk (Ring.bk 16 ((i 0).val - 2))) fullShare P
            ∗ inflP c (SemLoc.dma 4) arg8 (Ring.bk 16 (i 0).val) (prod X1 X2)
            ∗ ∃ W', owes (c : Thread nD τ) 0 W') -∗ K ⟨⟩))
      ⊢ wp frame (wpE (defs₀ (F := F)) Variants.none c none) Set.univ
          (theBody i arg1 harg1 arg2 harg2 arg3 harg3 arg4 harg4 arg6 harg6 arg7 harg7 arg8 harg8 arg9 harg9 arg10 harg10 arg11 harg11 arg12 harg12 arg13 harg13) K := by
  unfold theBody
  rw [cc0__fused_kernel_eq_skeleton]; unfold cc0__fused_kernel_skel
  rw [k0_part5_eq_skeleton]; unfold k0_part5_skel
  unfold cond1 at h1
  unfold owns
  iintro ⟨⟨%f1, %e1, H1⟩, ⟨%f2, %e2, H2⟩, ⟨%g, HB⟩, ⟨%fo, %g', %eg, HF⟩, HW, HK⟩
  subst e1 e2 eg
  sl_exec
  sl_step
  iapply HK
  isplitl [H1]
  · iexists f1; isplitr; · ipureintro; rfl
    iexact H1
  isplitl [H2]
  · iexists f2; isplitr; · ipureintro; rfl
    iexact H2
  isplitl [HF_dst]
  · iexists g'; isplitr; · ipureintro; rfl
    iexact HF_dst
  isplitl [HF]
  · iexists _; iexists _; isplitr; swap; · iexact HF
    ipureintro
    refine (View.read_writes_whole _ _ _).trans ?_
    refine (View.read_writes_full _ _ _ _ _).trans ?_
    exact congrArg₂ k0_pay1 (View.readAt_full _ _ _) (View.readAt_full _ _ _)
  iexists _; iexact HW

/-- An odd point from the third on, before the last: the same through the second staging buffer. -/
theorem run_odd (h1 : ¬ cond1 i = 1#1)
    (h2 : ¬ k0_cond2 i = 1#1) (h3 : k0_cond3 i = 1#1) (h4 : ¬ k0_cond4 i = 1#1) (h5 : k0_cond5 i = 1#1) (h6 : ¬ k0_cond6 i = 1#1)
    (P : S3152x768.Idx → Elt F .f32) (K : PUnit → sProp 𝕄) :
    iprop(owns (c : Thread nD τ) arg1 fullShare X1 ∗ owns (c : Thread nD τ) arg2 fullShare X2
        ∗ blkP (F := F) c (Ring.bk 16 (i 0).val) ∗ inflP c (SemLoc.dma 5) arg9 (Ring.bk 16 ((i 0).val - 2)) P
        ∗ owes (c : Thread nD τ) 0 W
        ∗ (iprop(owns (c : Thread nD τ) arg1 fullShare X1 ∗ owns (c : Thread nD τ) arg2 fullShare X2
            ∗ owns (c : Thread nD τ) (outBlk (Ring.bk 16 ((i 0).val - 2))) fullShare P
            ∗ inflP c (SemLoc.dma 5) arg9 (Ring.bk 16 (i 0).val) (prod X1 X2)
            ∗ ∃ W', owes (c : Thread nD τ) 0 W') -∗ K ⟨⟩))
      ⊢ wp frame (wpE (defs₀ (F := F)) Variants.none c none) Set.univ
          (theBody i arg1 harg1 arg2 harg2 arg3 harg3 arg4 harg4 arg6 harg6 arg7 harg7 arg8 harg8 arg9 harg9 arg10 harg10 arg11 harg11 arg12 harg12 arg13 harg13) K := by
  unfold theBody
  rw [cc0__fused_kernel_eq_skeleton]; unfold cc0__fused_kernel_skel
  rw [k0_part5_eq_skeleton]; unfold k0_part5_skel
  unfold cond1 at h1
  unfold owns
  iintro ⟨⟨%f1, %e1, H1⟩, ⟨%f2, %e2, H2⟩, ⟨%g, HB⟩, ⟨%fo, %g', %eg, HF⟩, HW, HK⟩
  subst e1 e2 eg
  sl_exec
  sl_step
  iapply HK
  isplitl [H1]
  · iexists f1; isplitr; · ipureintro; rfl
    iexact H1
  isplitl [H2]
  · iexists f2; isplitr; · ipureintro; rfl
    iexact H2
  isplitl [HF_dst]
  · iexists g'; isplitr; · ipureintro; rfl
    iexact HF_dst
  isplitl [HF]
  · iexists _; iexists _; isplitr; swap; · iexact HF
    ipureintro
    refine (View.read_writes_whole _ _ _).trans ?_
    refine (View.read_writes_full _ _ _ _ _).trans ?_
    exact congrArg₂ k0_pay2 (View.readAt_full _ _ _) (View.readAt_full _ _ _)
  iexists _; iexact HW

/-- The second point: nothing to wait for yet; its block goes out from the second staging buffer. -/
theorem run_one (h1 : ¬ cond1 i = 1#1)
    (h2 : ¬ k0_cond2 i = 1#1) (h3 : ¬ k0_cond3 i = 1#1) (h4 : ¬ k0_cond4 i = 1#1) (h5 : k0_cond5 i = 1#1) (h6 : ¬ k0_cond6 i = 1#1) (K : PUnit → sProp 𝕄) :
    iprop(owns (c : Thread nD τ) arg1 fullShare X1 ∗ owns (c : Thread nD τ) arg2 fullShare X2
        ∗ blkP (F := F) c (Ring.bk 16 (i 0).val) ∗ freeP (F := F) c (SemLoc.dma 5) arg9
        ∗ owes (c : Thread nD τ) 0 W
        ∗ (iprop(owns (c : Thread nD τ) arg1 fullShare X1 ∗ owns (c : Thread nD τ) arg2 fullShare X2
            ∗ inflP c (SemLoc.dma 5) arg9 (Ring.bk 16 (i 0).val) (prod X1 X2)
            ∗ ∃ W', owes (c : Thread nD τ) 0 W') -∗ K ⟨⟩))
      ⊢ wp frame (wpE (defs₀ (F := F)) Variants.none c none) Set.univ
          (theBody i arg1 harg1 arg2 harg2 arg3 harg3 arg4 harg4 arg6 harg6 arg7 harg7 arg8 harg8 arg9 harg9 arg10 harg10 arg11 harg11 arg12 harg12 arg13 harg13) K := by
  unfold theBody
  rw [cc0__fused_kernel_eq_skeleton]; unfold cc0__fused_kernel_skel
  rw [k0_part5_eq_skeleton]; unfold k0_part5_skel
  unfold cond1 at h1
  unfold owns
  iintro ⟨⟨%f1, %e1, H1⟩, ⟨%f2, %e2, H2⟩, ⟨%g, HB⟩, ⟨⟨%fo, HO⟩, HS⟩, HW, HK⟩
  subst e1 e2
  sl_exec
  sl_step
  iapply HK
  isplitl [H1]
  · iexists f1; isplitr; · ipureintro; rfl
    iexact H1
  isplitl [H2]
  · iexists f2; isplitr; · ipureintro; rfl
    iexact H2
  isplitl [HS]
  · iexists _; iexists _; isplitr; swap; · iexact HS
    ipureintro
    refine (View.read_writes_whole _ _ _).trans ?_
    refine (View.read_writes_full _ _ _ _ _).trans ?_
    exact congrArg₂ k0_pay2 (View.readAt_full _ _ _) (View.readAt_full _ _ _)
  iexists _; iexact HW

/-- The first point: the tokens are kept, the experts' two factors start on their way, and the first block goes out. -/
theorem run_zero (h1 : cond1 i = 1#1)
    (h2 : ¬ k0_cond2 i = 1#1) (h3 : ¬ k0_cond3 i = 1#1) (h4 : k0_cond4 i = 1#1) (h5 : ¬ k0_cond5 i = 1#1) (h6 : ¬ k0_cond6 i = 1#1)
    (f3 : Buf (Elt F) (arg3.view.loc (c : Thread nD τ))) (f4 : Buf (Elt F) (arg4.view.loc (c : Thread nD τ))) (K : PUnit → sProp 𝕄) :
    iprop(owns (c : Thread nD τ) arg1 fullShare X1 ∗ owns (c : Thread nD τ) arg2 fullShare X2
        ∗ blkP (F := F) c (Ring.bk 16 (i 0).val) ∗ freeP (F := F) c (SemLoc.dma 4) arg8
        ∗ (∃ f, arg10.view.loc (c : Thread nD τ) ↦[arg10.view.set]{fullShare} f)
        ∗ (∃ f, arg11.view.loc (c : Thread nD τ) ↦[arg11.view.set]{fullShare} f)
        ∗ (∃ f, arg12.view.loc (c : Thread nD τ) ↦[arg12.view.set]{fullShare} f)
        ∗ (arg3.view.loc (c : Thread nD τ) ↦[arg3.view.set]{fullShare} f3)
        ∗ (arg4.view.loc (c : Thread nD τ) ↦[arg4.view.set]{fullShare} f4)
        ∗ semVal ((c : Thread nD τ), SemLoc.dma 6) 0 ∗ semVal ((c : Thread nD τ), SemLoc.dma 7) 0
        ∗ owes (c : Thread nD τ) 0 W
        ∗ (iprop(owns (c : Thread nD τ) arg1 fullShare X1 ∗ owns (c : Thread nD τ) arg2 fullShare X2
            ∗ inflP c (SemLoc.dma 4) arg8 (Ring.bk 16 (i 0).val) (prod X1 X2)
            ∗ owns (c : Thread nD τ) arg10 fullShare (toks X1)
            ∗ copyP c (SemLoc.dma 6) 49152 arg3 arg11 (arg3.view.read (Elt F) f3) f3
            ∗ copyP c (SemLoc.dma 7) 49152 arg4 arg12 (arg4.view.read (Elt F) f4) f4
            ∗ ∃ W', owes (c : Thread nD τ) 0 W') -∗ K ⟨⟩))
      ⊢ wp frame (wpE (defs₀ (F := F)) Variants.none c none) Set.univ
          (theBody i arg1 harg1 arg2 harg2 arg3 harg3 arg4 harg4 arg6 harg6 arg7 harg7 arg8 harg8 arg9 harg9 arg10 harg10 arg11 harg11 arg12 harg12 arg13 harg13) K := by
  unfold theBody
  rw [cc0__fused_kernel_eq_skeleton]; unfold cc0__fused_kernel_skel
  rw [k0_part5_eq_skeleton]; unfold k0_part5_skel
  unfold cond1 at h1
  unfold owns
  iintro ⟨⟨%f1, %e1, H1⟩, ⟨%f2, %e2, H2⟩, ⟨%g, HB⟩, ⟨⟨%fo, HO⟩, HS⟩, ⟨%f10, H10⟩, ⟨%f11, H11⟩, ⟨%f12, H12⟩, H3, H4, HS6, HS7, HW, HK⟩
  subst e1 e2
  sl_exec
  sl_step
  iapply HK
  isplitl [H1]
  · iexists f1; isplitr; · ipureintro; rfl
    iexact H1
  isplitl [H2]
  · iexists f2; isplitr; · ipureintro; rfl
    iexact H2
  isplitl [HS]
  · iexists _; iexists _; isplitr; swap; · iexact HS
    ipureintro
    refine (View.read_writes_whole _ _ _).trans ?_
    refine (View.read_writes_full _ _ _ _ _).trans ?_
    exact congrArg₂ k0_pay1 (View.readAt_full _ _ _) (View.readAt_full _ _ _)
  isplitl [H10]
  · iexists _; isplitr; swap; · iexact H10
    ipureintro
    exact View.read_writes_full _ _ _ _ _
  isplitl [HS6]
  · iexists _; isplitr; swap; · iexact HS6
    ipureintro
    exact View.read_writes_whole _ _ _
  isplitl [HS7]
  · iexists _; isplitr; swap; · iexact HS7
    ipureintro
    exact View.read_writes_whole _ _ _
  iexists _; iexact HW

end Cert.KernelIdeal.Hand

end
-- ==== Proof.RunLast.lean ====
/-
  The kernel's body at the last point: its own product, then the routing from the kept tokens and the experts' two
  factors, and the drain of every transfer still under way.
-/
module

public import proofs.«01_k».proof.Proof.Runs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
    (arg1 : Memref sig .tc .vmem S3152x768 .f32) (harg1 : arg1.IsWhole)
    (arg2 : Memref sig .tc .vmem S768x768 .bf16) (harg2 : arg2.IsWhole)
    (arg3 : Memref sig .tc .hbm S768x1024 .bf16) (harg3 : arg3.IsWhole)
    (arg4 : Memref sig .tc .hbm S1024x768 .bf16) (harg4 : arg4.IsWhole)
    (arg6 : Memref sig .tc .hbm S256x16 .f32) (harg6 : arg6.IsWhole)
    (arg7 : Memref sig .tc .vmem S256x16 .i32) (harg7 : arg7.IsWhole)
    (arg8 : Memref sig .tc .vmem S3152x768 .f32) (harg8 : arg8.IsWhole)
    (arg9 : Memref sig .tc .vmem S3152x768 .f32) (harg9 : arg9.IsWhole)
    (arg10 : Memref sig .tc .vmem S256x768 .f32) (harg10 : arg10.IsWhole)
    (arg11 : Memref sig .tc .vmem S768x1024 .bf16) (harg11 : arg11.IsWhole)
    (arg12 : Memref sig .tc .vmem S1024x768 .bf16) (harg12 : arg12.IsWhole)
    (arg13 : Memref sig .tc .vmem S256x16 .f32) (harg13 : arg13.IsWhole)
    (X1 : S3152x768.Idx → Elt F .f32) (X2 : S768x768.Idx → Elt F .bf16)
    (W : Waits sig Unit)

/-- The last point: blocks 13, 14 and 15 land, the coefficients and the mask are computed from the tokens and the two
factors that landed, and every buffer and semaphore is back at rest. -/
theorem run_last (hi : Ring.bk 16 (i 0).val = 15) (h1 : ¬ cond1 i = 1#1)
    (h2 : ¬ k0_cond2 i = 1#1) (h3 : k0_cond3 i = 1#1) (h4 : ¬ k0_cond4 i = 1#1) (h5 : k0_cond5 i = 1#1) (h6 : k0_cond6 i = 1#1)
    (P P' : S3152x768.Idx → Elt F .f32) (TOK : S256x768.Idx → Elt F .f32)
    (Y1 : S768x1024.Idx → Elt F .bf16) (Y2 : S1024x768.Idx → Elt F .bf16)
    (f3 : Buf (Elt F) (arg3.view.loc (c : Thread nD τ))) (f4 : Buf (Elt F) (arg4.view.loc (c : Thread nD τ))) (K : PUnit → sProp 𝕄) :
    iprop(owns (c : Thread nD τ) arg1 fullShare X1 ∗ owns (c : Thread nD τ) arg2 fullShare X2
        ∗ blkP (F := F) c (Ring.bk 16 (i 0).val) ∗ inflP c (SemLoc.dma 5) arg9 (Ring.bk 16 ((i 0).val - 2)) P
        ∗ inflP c (SemLoc.dma 4) arg8 14 P'
        ∗ owns (c : Thread nD τ) arg10 fullShare TOK
        ∗ copyP c (SemLoc.dma 6) 49152 arg3 arg11 Y1 f3
        ∗ copyP c (SemLoc.dma 7) 49152 arg4 arg12 Y2 f4
        ∗ (∃ f, arg13.view.loc (c : Thread nD τ) ↦[arg13.view.set]{fullShare} f)
        ∗ (∃ f, arg6.view.loc (c : Thread nD τ) ↦[arg6.view.set]{fullShare} f)
        ∗ (∃ f, arg7.view.loc (c : Thread nD τ) ↦[arg7.view.set]{fullShare} f)
        ∗ semVal ((c : Thread nD τ), SemLoc.dma 8) 0
        ∗ owes (c : Thread nD τ) 0 W
        ∗ (iprop(owns (c : Thread nD τ) arg1 fullShare X1 ∗ owns (c : Thread nD τ) arg2 fullShare X2
            ∗ owns (c : Thread nD τ) (outBlk (Ring.bk 16 ((i 0).val - 2))) fullShare P
            ∗ owns (c : Thread nD τ) (outBlk 14) fullShare P'
            ∗ owns (c : Thread nD τ) (outBlk 15) fullShare (prod X1 X2)
            ∗ freeP (F := F) c (SemLoc.dma 4) arg8 ∗ freeP (F := F) c (SemLoc.dma 5) arg9
            ∗ (∃ f, arg10.view.loc (c : Thread nD τ) ↦[arg10.view.set]{fullShare} f)
            ∗ (∃ f, arg11.view.loc (c : Thread nD τ) ↦[arg11.view.set]{fullShare} f)
            ∗ (∃ f, arg12.view.loc (c : Thread nD τ) ↦[arg12.view.set]{fullShare} f)
            ∗ (arg3.view.loc (c : Thread nD τ) ↦[arg3.view.set]{fullShare} f3)
            ∗ (arg4.view.loc (c : Thread nD τ) ↦[arg4.view.set]{fullShare} f4)
            ∗ semVal ((c : Thread nD τ), SemLoc.dma 6) 0 ∗ semVal ((c : Thread nD τ), SemLoc.dma 7) 0
            ∗ (∃ f, arg13.view.loc (c : Thread nD τ) ↦[arg13.view.set]{fullShare} f)
            ∗ owns (c : Thread nD τ) arg6 fullShare (k0_pay4 (logits TOK Y1 Y2))
            ∗ owns (c : Thread nD τ) arg7 fullShare (k0_pay5 (logits TOK Y1 Y2))
            ∗ semVal ((c : Thread nD τ), SemLoc.dma 8) 0
            ∗ ∃ W', owes (c : Thread nD τ) 0 W') -∗ K ⟨⟩))
      ⊢ wp frame (wpE (defs₀ (F := F)) Variants.none c none) Set.univ
          (theBody i arg1 harg1 arg2 harg2 arg3 harg3 arg4 harg4 arg6 harg6 arg7 harg7 arg8 harg8 arg9 harg9 arg10 harg10 arg11 harg11 arg12 harg12 arg13 harg13) K := by
  unfold theBody
  rw [cc0__fused_kernel_eq_skeleton]; unfold cc0__fused_kernel_skel
  rw [k0_part5_eq_skeleton]; unfold k0_part5_skel
  rw [k0_part1_eq_skeleton]; unfold k0_part1_skel
  rw [k0_part2_eq_skeleton]; unfold k0_part2_skel
  rw [k0_part3_eq_skeleton]; unfold k0_part3_skel
  rw [k0_part4_eq_skeleton]; unfold k0_part4_skel
  unfold cond1 at h1
  unfold owns
  iintro ⟨⟨%f1, %e1, H1⟩, ⟨%f2, %e2, H2⟩, ⟨%g, HB⟩, ⟨%fo, %g', %eg, HF⟩, ⟨%fq, %gq, %eq, HG⟩, ⟨%f10, %e10, H10⟩, ⟨%f11, %e11, H11⟩, ⟨%f12, %e12, H12⟩, ⟨%f13, H13⟩, ⟨%f6, H6⟩, ⟨%f7, H7⟩, HS8, HW, HK⟩
  subst e1 e2 eg eq e10 e11 e12
  sl_exec
  sl_exec
  sl_step
  iapply HK
  isplitl [H1]
  · iexists f1; isplitr; · ipureintro; rfl
    iexact H1
  isplitl [H2]
  · iexists f2; isplitr; · ipureintro; rfl
    iexact H2
  isplitl [HF_dst]
  · iexists g'; isplitr; · ipureintro; rfl
    iexact HF_dst
  isplitl [HG_dst]
  · iexists gq; isplitr; · ipureintro; rfl
    iexact HG_dst
  isplitl [HB]
  · rw [← hi]
    iexists _; isplitr; swap; · iexact HB
    ipureintro
    refine (View.read_writes_whole _ _ _).trans ?_
    refine (View.read_writes_full _ _ _ _ _).trans ?_
    exact congrArg₂ k0_pay2 (View.readAt_full _ _ _) (View.readAt_full _ _ _)
  isplitl [HG_src HG]
  · isplitl [HG_src]
    · iexists _; iexact HG_src
    iexact HG
  isplitl [HF_src HF]
  · isplitl [HF_src]
    · iexists _; iexact HF_src
    iexact HF
  isplitl [H10]
  · iexists _; iexact H10
  isplitl [H11_dst]
  · iexists _; iexact H11_dst
  isplitl [H12_dst]
  · iexists _; iexact H12_dst
  isplitl [H11_src]
  · iexact H11_src
  isplitl [H12_src]
  · iexact H12_src
  isplitl [H11]
  · iexact H11
  isplitl [H12]
  · iexact H12
  isplitl [H13]
  · iexists _; iexact H13
  isplitl [H6]
  · iexists _; isplitr; swap; · iexact H6
    ipureintro
    refine (View.read_writes_whole _ _ _).trans ?_
    refine (View.read_writes_full _ _ _ _ _).trans ?_
    exact congrArg₂ (fun a b => k0_pay4 (logits a b (View.read (Elt F) arg12.view f12))) (View.readAt_full arg10.view f10 _) (View.readAt_full arg11.view f11 _)
  isplitl [H7]
  · iexists _; isplitr; swap; · iexact H7
    ipureintro
    refine (View.read_writes_full _ _ _ _ _).trans ?_
    exact congrArg₂ (fun a b => k0_pay5 (logits a b (View.read (Elt F) arg12.view f12))) (View.readAt_full arg10.view f10 _) (View.readAt_full arg11.view f11 _)
  isplitl [HS8]
  · iexact HS8
  iexists _; iexact HW

end Cert.KernelIdeal.Hand

end
-- ==== Proof.Blocks.lean ====
/-
  The result array as its sixteen blocks of rows: cut into them when the region starts, joined from them, each at
  its product, when the region ends.
-/
module

public import proofs.«01_k».proof.Proof.Names
public import Idealize.ShloMosaic.Lib.Ring
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.ValueIdx (ix2)

local notation "𝕄" => MT nD τ sig Unit (Elt F) ℕ (Pipeline.UD sig nD τ) ℕ

/-- The elements of block `u`. -/
def blkSet (u : Fin 16) : Finset S50432x768.Idx := (outBlk u).view.set

/-- Block `u` is the rows from `3152 * u` on, 3152 of them. -/
theorem mem_blkSet (u : Fin 16) (i : S50432x768.Idx) :
    i ∈ blkSet u ↔ 3152 * u.val ≤ (i 0).val ∧ (i 0).val < 3152 * u.val + 3152 := by
  have e : blkSet u = (Rect.unit (s := S50432x768) (blkOff u) S3152x768.size (blkOff_inb u)).set :=
    View.set_slice_whole main_call0_v9_0 (Rect.unit (s := S50432x768) (blkOff u) S3152x768.size (blkOff_inb u))
  rw [e, Rect.mem_set_unit]
  constructor
  · intro h; exact h 0
  · intro h a
    fin_cases a
    · exact h
    · exact ⟨Nat.zero_le _, by have := (i 1).isLt; exact lt_of_lt_of_le this (by show 768 ≤ 0 + 768; omega)⟩

/-- Two blocks share no element. -/
theorem blkSet_disjoint (u u' : Fin 16) (h : u ≠ u') : Disjoint (blkSet u) (blkSet u') := by
  rw [Finset.disjoint_left]
  intro i hi hi'
  have h1 := (mem_blkSet u i).mp hi
  have h2 := (mem_blkSet u' i).mp hi'
  exact h (Fin.ext (by omega))

/-- Every element is in a block. -/
theorem blkSet_cover : Finset.univ.biUnion blkSet = Finset.univ := by
  ext i
  simp only [Finset.mem_biUnion, Finset.mem_univ, true_and, iff_true]
  have hi : (i 0).val < 50432 := (i 0).isLt
  exact ⟨⟨(i 0).val / 3152, by omega⟩, (mem_blkSet _ i).mpr ⟨by show 3152 * ((i 0).val / 3152) ≤ _; omega, by show _ < 3152 * ((i 0).val / 3152) + 3152; omega⟩⟩

/-- The array whose block `u` is `P u`. -/
def outG (P : Fin 16 → S3152x768.Idx → Elt F .f32) : S50432x768.Idx → Elt F .f32 := fun i =>
  P ⟨(i 0).val / 3152, by have hi : (i 0).val < 50432 := (i 0).isLt; omega⟩
    (ix2 ⟨(i 0).val % 3152, Nat.mod_lt _ (by decide)⟩ (i 1))

/-- Contents that read alike through a view agree on the elements it addresses. -/
theorem eq_on_set {sp : Space} {S : Shape} {e : EltTy} (M : Memref sig .tc sp S e) (f G : M.view.ty.Contents (Elt F))
    (h : M.view.read (Elt F) f = M.view.read (Elt F) G) : ∀ i ∈ M.view.set, f i = G i := by
  intro i hi
  obtain ⟨x, -, rfl⟩ := Finset.mem_map.mp hi
  have := congrFun h x
  rw [View.read_apply, View.read_apply] at this
  exact (cast_inj _).mp this

/-- A memref owned at what `G` reads through it is its elements at `G`. -/
theorem owns_at (c : Dev nD) {sp : Space} {S : Shape} {e : EltTy} (M : Memref sig .tc sp S e) (G : M.view.ty.Contents (Elt F))
    (X : S.Idx → Elt F e) (h : M.view.read (Elt F) G = X) :
    (owns (c : Thread nD τ) M fullShare X : sProp 𝕄) ⊢ (M.view.loc (c : Thread nD τ) ↦[M.view.set]{fullShare} G) := by
  unfold owns
  iintro ⟨%f, %hf, H⟩
  ihave H' := (Entails.of_eq (pointsTo_congr (eq_on_set M f G (hf.trans h.symm)))) $$ H
  iexact H'

/-- Where element `j` of block `u` lies in the array. -/
def blkEmb (u : Fin 16) (j : S3152x768.Idx) : S50432x768.Idx := (outBlk u).view.emb j
/-- Its row; -/
theorem blkEmb_0 (u : Fin 16) (j : S3152x768.Idx) : (blkEmb u j 0).val = 3152 * u.val + (j 0).val := by
  show 3152 * u.val + 1 * (j 0).val = _; omega
/-- its column. -/
theorem blkEmb_1 (u : Fin 16) (j : S3152x768.Idx) : (blkEmb u j 1).val = (j 1).val := by
  show 0 + 1 * (j 1).val = _; omega

/-- The array's element at a block's element is that block's. -/
theorem outG_blkEmb (P : Fin 16 → S3152x768.Idx → Elt F .f32) (u : Fin 16) (j : S3152x768.Idx) :
    outG P (blkEmb u j) = P u j := by
  have h0 : (j 0).val < 3152 := (j 0).isLt
  have e1 := blkEmb_0 u j
  have e2 := blkEmb_1 u j
  unfold outG
  have q0 : ∀ (h), (⟨(blkEmb u j 0).val / 3152, h⟩ : Fin 16) = u := fun h => Fin.ext (by show _ / 3152 = _; omega)
  rw [q0]
  congr 1
  funext a
  fin_cases a
  · exact Fin.ext (by show (blkEmb u j 0).val % 3152 = (j 0).val; omega)
  · exact Fin.ext e2

/-- Block `u` of the array whose blocks are `P` reads `P u`. -/
theorem read_outG (P : Fin 16 → S3152x768.Idx → Elt F .f32) (u : Fin 16) :
    (outBlk u).view.read (Elt F) (outG P) = P u := funext fun j => outG_blkEmb P u j

/-- The array held whole is its blocks, each held at some contents. -/
theorem split_out (c : Dev nD) (f : Buf (Elt F) ((c : Thread nD τ).loc main_call0_v9_0)) :
    ((((c : Thread nD τ).loc main_call0_v9_0) ↦{fullShare} f) : sProp 𝕄) ⊢ bigSep Finset.univ (fun u : Fin 16 => blkP (F := F) c u) := by
  refine (Entails.of_eq (Ring.pointsTo_blocks (ℓ := (c : Thread nD τ).loc main_call0_v9_0) blkSet blkSet_disjoint blkSet_cover f)).trans ?_
  refine bigSep_mono fun u _ => ?_
  exact (show ((((c : Thread nD τ).loc main_call0_v9_0) ↦[blkSet u]{fullShare} f : sProp 𝕄) ⊢ blkP (F := F) c u) from by
    iintro H
    iexists f; iexact H)

/-- The blocks, each holding its own contents, are the array held whole at the contents they make up. -/
theorem join_out (c : Dev nD) (P : Fin 16 → S3152x768.Idx → Elt F .f32) :
    (bigSep Finset.univ (fun u : Fin 16 => owns (c : Thread nD τ) (outBlk u) fullShare (P u)) : sProp 𝕄)
      ⊢ (((c : Thread nD τ).loc main_call0_v9_0) ↦{fullShare} (outG P : Buf (Elt F) ((c : Thread nD τ).loc main_call0_v9_0))) := by
  refine BI.BIBase.Entails.trans ?_ (Entails.of_eq (Ring.pointsTo_blocks (ℓ := (c : Thread nD τ).loc main_call0_v9_0) blkSet blkSet_disjoint blkSet_cover (outG P)).symm)
  refine bigSep_mono fun u _ => ?_
  exact owns_at c (outBlk u) (outG P) (P u) (read_outG P u)

end Cert.KernelIdeal.Hand

end
-- ==== Proof.Held.lean ====
/-
  What the kernel holds between two grid points: the result's blocks and the staging buffers in their roles, and the
  routing's buffers; and how each point's step moves them on.
-/
module

public import proofs.«01_k».proof.Proof.RunLast
public import proofs.«01_k».proof.Proof.Blocks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (c : Dev nD)

/-! ## The values -/

/-- Block `u`'s grid point. -/
def ptOf (u : Fin 16) : Fin cfg0.N := ⟨u.val, by show u.val < grid0.N; rw [N_0]; exact u.isLt⟩
/-- The rows of `x` at block `u`; -/
def XB (u : Fin 16) : S3152x768.Idx → Elt F .f32 := iblk m c 0 (ptOf u)
/-- the weight as block `u`'s point finds it; -/
def WB (u : Fin 16) : S768x768.Idx → Elt F .bf16 := iblk m c 1 (ptOf u)
/-- and their product. -/
def PB (u : Fin 16) : S3152x768.Idx → Elt F .f32 := prod (XB m c u) (WB m c u)
/-- The routing's two factors as the region finds them; -/
def Y1 : S768x1024.Idx → Elt F .bf16 := V m c main_call0_v5
def Y2 : S1024x768.Idx → Elt F .bf16 := V m c main_call0_v8
/-- its tokens; -/
def TOK : S256x768.Idx → Elt F .f32 := toks (XB m c 0)
/-- and its logits. -/
def LG : FVec F S256x16 .f32 := logits (TOK m c) (Y1 m c) (Y2 m c)

/-! ## The ring of blocks -/

abbrev ob0 : Memref sig .tc .vmem S3152x768 .f32 := Memref.whole cc0_scratch0
abbrev ob1 : Memref sig .tc .vmem S3152x768 .f32 := Memref.whole cc0_scratch1
/-- A staging buffer at rest. -/
def freeR (s : Fin 2) : sProp 𝕄 := match s with
  | 0 => freeP (F := F) c (SemLoc.dma 4) ob0
  | 1 => freeP (F := F) c (SemLoc.dma 5) ob1
/-- A block on its way from a staging buffer. -/
def inflR (s : Fin 2) (u : Fin 16) : sProp 𝕄 := match s with
  | 0 => inflP c (SemLoc.dma 4) ob0 u (PB m c u)
  | 1 => inflP c (SemLoc.dma 5) ob1 u (PB m c u)
/-- A block not yet sent. -/
def aheadR (u : Fin 16) : sProp 𝕄 := blkP (F := F) c u
/-- A block that landed. -/
def behindR (u : Fin 16) : sProp 𝕄 := owns (c : Thread nD τ) (outBlk u) fullShare (PB m c u)
/-- The ring before step `p`. -/
def ring (p : ℕ) : sProp 𝕄 := Ring.AtBΦ 2 (freeR (F := F) c) (inflR m c) (aheadR (F := F) c) (behindR m c) p

/-- The first step in roles. -/
theorem ring_zero_roles : ring m c 0 ⊢ iprop((aheadR (F := F) c (Ring.bk 16 0) ∗ freeR (F := F) c (Ring.sl 2 0))
    ∗ (inflR m c (Ring.sl 2 0) (Ring.bk 16 0) -∗ ring m c (0 + 1))) := by
  unfold ring
  rw [Ring.AtBΦ_lt _ _ _ _ _ 0 (by omega), Ring.AtB2_zero' 2 _ _ _ _ 0 rfl, Ring.AtBΦ_lt _ _ _ _ _ (0 + 1) (by omega),
    Ring.AtB22_next_zero' _ _ _ _ 0 rfl]
  iintro ⟨⟨Ha, HA⟩, Hf0, Hf1⟩
  isplitl [Ha Hf0]
  · isplitl [Ha]; · iexact Ha
    iexact Hf0
  iintro Hn
  isplitl [HA]; · iexact HA
  isplitl [Hf1]; · iexact Hf1
  iexact Hn
/-- The first step takes its block and the first staging buffer. -/
theorem ring_zero : ring m c 0 ⊢ iprop((blkP (F := F) c (Ring.bk 16 0) ∗ freeP (F := F) c (SemLoc.dma 4) ob0)
    ∗ (inflP c (SemLoc.dma 4) ob0 (Ring.bk 16 0) (PB m c (Ring.bk 16 0)) -∗ ring m c (0 + 1))) := ring_zero_roles m c

/-- The second step in roles. -/
theorem ring_one_roles : ring m c 1 ⊢ iprop((aheadR (F := F) c (Ring.bk 16 1) ∗ freeR (F := F) c (Ring.sl 2 1))
    ∗ (inflR m c (Ring.sl 2 1) (Ring.bk 16 1) -∗ ring m c (1 + 1))) := by
  unfold ring
  rw [Ring.AtBΦ_lt _ _ _ _ _ 1 (by omega), Ring.AtB22_one' _ _ _ _ 1 rfl (by omega), Ring.AtBΦ_lt _ _ _ _ _ (1 + 1) (by omega),
    Ring.AtB22_next_one' _ _ _ _ 1 rfl]
  iintro ⟨⟨Ha, HA⟩, Hf, Hc⟩
  isplitl [Ha Hf]
  · isplitl [Ha]; · iexact Ha
    iexact Hf
  iintro Hn
  isplitl [HA]; · iexact HA
  isplitl [Hc]; · iexact Hc
  iexact Hn
/-- The second step takes its block and the second staging buffer. -/
theorem ring_one : ring m c 1 ⊢ iprop((blkP (F := F) c (Ring.bk 16 1) ∗ freeP (F := F) c (SemLoc.dma 5) ob1)
    ∗ (inflP c (SemLoc.dma 5) ob1 (Ring.bk 16 1) (PB m c (Ring.bk 16 1)) -∗ ring m c (1 + 1))) := ring_one_roles m c

/-- A middle step takes its block and the flight of two steps before; it gives back that flight's block, landed, and its own flight. -/
theorem ring_mid (t : ℕ) (h2 : 2 ≤ t) (ht : t + 1 < 16) : ring m c t ⊢ iprop((aheadR (F := F) c (Ring.bk 16 t) ∗ inflR m c (Ring.sl 2 t) (Ring.bk 16 (t - 2)))
    ∗ ((behindR m c (Ring.bk 16 (t - 2)) ∗ inflR m c (Ring.sl 2 t) (Ring.bk 16 t)) -∗ ring m c (t + 1))) := by
  unfold ring
  rw [Ring.AtBΦ_lt _ _ _ _ _ t (by omega), Ring.AtB22_here _ _ _ _ t h2 (by omega), Ring.AtBΦ_lt _ _ _ _ _ (t + 1) ht,
    Ring.AtB22_next _ _ _ _ t h2 (by omega)]
  iintro ⟨⟨Ha, HA⟩, HB, Hw, Hc⟩
  isplitl [Ha Hw]
  · isplitl [Ha]; · iexact Ha
    iexact Hw
  iintro ⟨Hl, Hn⟩
  isplitl [HA]; · iexact HA
  isplitl [Hl HB]
  · isplitl [Hl]; · iexact Hl
    iexact HB
  isplitl [Hc]; · iexact Hc
  iexact Hn

/-- An even middle step, its pieces spelled out; -/
theorem ring_even (t : ℕ) (h2 : 2 ≤ t) (ht : t + 1 < 16) (he : t % 2 = 0) : ring m c t ⊢ iprop((blkP (F := F) c (Ring.bk 16 t) ∗ inflP c (SemLoc.dma 4) ob0 (Ring.bk 16 (t - 2)) (PB m c (Ring.bk 16 (t - 2))))
    ∗ ((owns (c : Thread nD τ) (outBlk (Ring.bk 16 (t - 2))) fullShare (PB m c (Ring.bk 16 (t - 2))) ∗ inflP c (SemLoc.dma 4) ob0 (Ring.bk 16 t) (PB m c (Ring.bk 16 t))) -∗ ring m c (t + 1))) := by
  have e : Ring.sl 2 t = 0 := Fin.ext (by simp [Ring.sl, he])
  have h := ring_mid m c t h2 ht
  rw [e] at h
  exact h
/-- and an odd one. -/
theorem ring_odd (t : ℕ) (h2 : 2 ≤ t) (ht : t + 1 < 16) (he : t % 2 = 1) : ring m c t ⊢ iprop((blkP (F := F) c (Ring.bk 16 t) ∗ inflP c (SemLoc.dma 5) ob1 (Ring.bk 16 (t - 2)) (PB m c (Ring.bk 16 (t - 2))))
    ∗ ((owns (c : Thread nD τ) (outBlk (Ring.bk 16 (t - 2))) fullShare (PB m c (Ring.bk 16 (t - 2))) ∗ inflP c (SemLoc.dma 5) ob1 (Ring.bk 16 t) (PB m c (Ring.bk 16 t))) -∗ ring m c (t + 1))) := by
  have e : Ring.sl 2 t = 1 := Fin.ext (by simp [Ring.sl, he])
  have h := ring_mid m c t h2 ht
  rw [e] at h
  exact h

/-- The last step in roles. -/
theorem ring_last_roles : ring m c 15 ⊢ iprop((aheadR (F := F) c (Ring.bk 16 15) ∗ inflR m c (Ring.sl 2 15) (Ring.bk 16 (15 - 2))
      ∗ inflR m c (Ring.sl 2 (15 + 1)) (Ring.bk 16 (15 - 1)))
    ∗ ((behindR m c (Ring.bk 16 (15 - 2)) ∗ behindR m c (Ring.bk 16 (15 - 1)) ∗ behindR m c (Ring.bk 16 15)
        ∗ freeR (F := F) c (Ring.sl 2 (15 + 1)) ∗ freeR (F := F) c (Ring.sl 2 15)) -∗ ring m c (15 + 1))) := by
  unfold ring
  rw [Ring.AtBΦ_lt _ _ _ _ _ 15 (by omega), Ring.AtB22_here_last _ _ _ _ 15 (by omega) (show 15 + 1 = 16 from rfl), Ring.AtBΦ_end _ _ _ _ _ (15 + 1) (show 15 + 1 = 16 from rfl),
    Ring.AtB22_drained _ _ 15 (by omega) (show 15 + 1 = 16 from rfl)]
  iintro ⟨Ha, HB, Hw, Hc⟩
  isplitl [Ha Hw Hc]
  · isplitl [Ha]; · iexact Ha
    isplitl [Hw]; · iexact Hw
    iexact Hc
  iintro ⟨H2, H1, H0, Hf, Hf'⟩
  isplitr [Hf Hf']
  · isplitl [H0]; · iexact H0
    isplitl [H2]; · iexact H2
    isplitl [H1]; · iexact H1
    iexact HB
  isplitl [Hf']; · iexact Hf'
  iexact Hf
/-- The last step takes its block and both flights; it gives back all three blocks, landed, and both staging buffers at rest. -/
theorem ring_last : ring m c 15 ⊢ iprop((blkP (F := F) c (Ring.bk 16 15) ∗ inflP c (SemLoc.dma 5) ob1 (Ring.bk 16 (15 - 2)) (PB m c (Ring.bk 16 (15 - 2)))
      ∗ inflP c (SemLoc.dma 4) ob0 14 (PB m c 14))
    ∗ ((owns (c : Thread nD τ) (outBlk (Ring.bk 16 (15 - 2))) fullShare (PB m c (Ring.bk 16 (15 - 2)))
        ∗ owns (c : Thread nD τ) (outBlk 14) fullShare (PB m c 14) ∗ owns (c : Thread nD τ) (outBlk 15) fullShare (PB m c 15)
        ∗ freeP (F := F) c (SemLoc.dma 4) ob0 ∗ freeP (F := F) c (SemLoc.dma 5) ob1) -∗ ring m c (15 + 1))) := ring_last_roles m c

/-! ## The routing's buffers -/

abbrev v2M : Memref sig .tc .hbm S768x1024 .bf16 := Memref.whole main_call0_v5
abbrev vtM : Memref sig .tc .hbm S1024x768 .bf16 := Memref.whole main_call0_v8
abbrev coM : Memref sig .tc .hbm S256x16 .f32 := Memref.whole main_v0_1
abbrev tokM : Memref sig .tc .vmem S256x768 .f32 := Memref.whole cc0_scratch2
abbrev v2sM : Memref sig .tc .vmem S768x1024 .bf16 := Memref.whole cc0_scratch3
abbrev vtsM : Memref sig .tc .vmem S1024x768 .bf16 := Memref.whole cc0_scratch4
abbrev cbM : Memref sig .tc .vmem S256x16 .f32 := Memref.whole cc0_scratch5

/-- A memref's elements at some contents; -/
abbrev anyP {sp : Space} {S : Shape} {e : EltTy} (M : Memref sig .tc sp S e) : sProp 𝕄 :=
  iprop(∃ f, M.view.loc (c : Thread nD τ) ↦[M.view.set]{fullShare} f)
/-- and at given ones. -/
abbrev atP {sp : Space} {S : Shape} {e : EltTy} (M : Memref sig .tc sp S e) (f : Buf (Elt F) (M.view.loc (c : Thread nD τ))) : sProp 𝕄 :=
  iprop(M.view.loc (c : Thread nD τ) ↦[M.view.set]{fullShare} f)

/-- The routing's buffers at rest, but for the coefficients. -/
def restR : sProp 𝕄 := iprop(anyP (F := F) c tokM ∗ anyP (F := F) c v2sM ∗ anyP (F := F) c vtsM
  ∗ atP c v2M (V m c main_call0_v5) ∗ atP c vtM (V m c main_call0_v8)
  ∗ semVal ((c : Thread nD τ), SemLoc.dma 6) 0 ∗ semVal ((c : Thread nD τ), SemLoc.dma 7) 0
  ∗ anyP (F := F) c cbM ∗ semVal ((c : Thread nD τ), SemLoc.dma 8) 0)
/-- The routing's buffers once the tokens are kept and the two factors are on their way. -/
def waitR : sProp 𝕄 := iprop(owns (c : Thread nD τ) tokM fullShare (TOK m c)
  ∗ copyP c (SemLoc.dma 6) 49152 v2M v2sM (Y1 m c) (V m c main_call0_v5)
  ∗ copyP c (SemLoc.dma 7) 49152 vtM vtsM (Y2 m c) (V m c main_call0_v8)
  ∗ anyP (F := F) c cbM ∗ semVal ((c : Thread nD τ), SemLoc.dma 8) 0 ∗ anyP (F := F) c coM)
/-- The routing's buffers before step `p`. -/
def route (p : ℕ) : sProp 𝕄 :=
  if p = 0 then iprop(restR m c ∗ anyP (F := F) c coM)
  else if p < 16 then waitR m c
  else iprop(restR m c ∗ owns (c : Thread nD τ) coM fullShare (k0_pay4 (LG m c)))
/-- Before the first step nothing is under way and the scores' array holds anything. -/
theorem route_zero : route m c 0 = iprop(restR m c ∗ anyP (F := F) c coM) := if_pos rfl
/-- Between the first step and the end the vectors are on their way. -/
theorem route_mid (p : ℕ) (h : p ≠ 0) (h' : p < 16) : route m c p = waitR m c := by unfold route; rw [if_neg h, if_pos h']
/-- At the end nothing is under way and the scores' array holds the scores. -/
theorem route_end (p : ℕ) (h : p = 16) : route m c p = iprop(restR m c ∗ owns (c : Thread nD τ) coM fullShare (k0_pay4 (LG m c))) := by
  subst h; unfold route; rw [if_neg (by omega), if_neg (by omega)]

end Cert.KernelIdeal.Hand

end
-- ==== Proof.Steps.lean ====
/-
  One step of the kernel per case of the grid point: the first, the second, an even or an odd one in the middle, the last.
-/
module

public import proofs.«01_k».proof.Proof.Held

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (c : Dev nD)

/-! ## The grid points and the branches they take -/

/-- The grid has one axis: the point's coordinate is its number. -/
theorem coords_val : ∀ t : Fin grid0.N, (grid0.coords t 0).val = t.val := by decide
/-- The first point starts the vectors' transfers and does an even product; it waits for no block. -/
theorem conds_zero : ∀ t : Fin grid0.N, t.val = 0 → cond1 (grid0.coords t) = 1#1 ∧ ¬ k0_cond2 (grid0.coords t) = 1#1 ∧ ¬ k0_cond3 (grid0.coords t) = 1#1
    ∧ k0_cond4 (grid0.coords t) = 1#1 ∧ ¬ k0_cond5 (grid0.coords t) = 1#1 ∧ ¬ k0_cond6 (grid0.coords t) = 1#1 := by decide
/-- The second point does an odd product and waits for no block. -/
theorem conds_one : ∀ t : Fin grid0.N, t.val = 1 → ¬ cond1 (grid0.coords t) = 1#1 ∧ ¬ k0_cond2 (grid0.coords t) = 1#1 ∧ ¬ k0_cond3 (grid0.coords t) = 1#1
    ∧ ¬ k0_cond4 (grid0.coords t) = 1#1 ∧ k0_cond5 (grid0.coords t) = 1#1 ∧ ¬ k0_cond6 (grid0.coords t) = 1#1 := by decide
/-- A later even point waits for the even buffer and does an even product. -/
theorem conds_even : ∀ t : Fin grid0.N, 2 ≤ t.val → t.val % 2 = 0 → ¬ cond1 (grid0.coords t) = 1#1 ∧ k0_cond2 (grid0.coords t) = 1#1 ∧ ¬ k0_cond3 (grid0.coords t) = 1#1
    ∧ k0_cond4 (grid0.coords t) = 1#1 ∧ ¬ k0_cond5 (grid0.coords t) = 1#1 ∧ ¬ k0_cond6 (grid0.coords t) = 1#1 := by decide
/-- A later odd point before the last waits for the odd buffer and does an odd product. -/
theorem conds_odd : ∀ t : Fin grid0.N, 2 ≤ t.val → t.val + 1 < 16 → t.val % 2 = 1 → ¬ cond1 (grid0.coords t) = 1#1 ∧ ¬ k0_cond2 (grid0.coords t) = 1#1 ∧ k0_cond3 (grid0.coords t) = 1#1
    ∧ ¬ k0_cond4 (grid0.coords t) = 1#1 ∧ k0_cond5 (grid0.coords t) = 1#1 ∧ ¬ k0_cond6 (grid0.coords t) = 1#1 := by decide
/-- The last point does as an odd one and then the routing. -/
theorem conds_last : ∀ t : Fin grid0.N, t.val = 15 → ¬ cond1 (grid0.coords t) = 1#1 ∧ ¬ k0_cond2 (grid0.coords t) = 1#1 ∧ k0_cond3 (grid0.coords t) = 1#1
    ∧ ¬ k0_cond4 (grid0.coords t) = 1#1 ∧ k0_cond5 (grid0.coords t) = 1#1 ∧ k0_cond6 (grid0.coords t) = 1#1 := by decide

/-! ## The memrefs the body is called with -/

abbrev ms0 (t : Fin cfg0.N) : Memref sig .tc .vmem S3152x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S768x768 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x16 .i32 := win0_2.stage (cfg0.slots t 2)
abbrev hs2 (t : Fin cfg0.N) : (ms2 t).IsWhole := hstage0_2 ((cfg0.slots t 2).cast nbuf0_2)

/-- What a step starts from, -/
abbrev before (t : Fin cfg0.N) (W : Waits sig Unit) : sProp 𝕄 :=
  iprop(ring m c t.val ∗ route m c t.val ∗ owes (c : Thread nD τ) 0 W
    ∗ owns (c : Thread nD τ) (ms0 t) fullShare (XB m c (Ring.bk 16 t.val)) ∗ owns (c : Thread nD τ) (ms1 t) fullShare (WB m c (Ring.bk 16 t.val)))
/-- and what it ends in. -/
abbrev after (t : Fin cfg0.N) : sProp 𝕄 :=
  iprop(ring m c (t.val + 1) ∗ route m c (t.val + 1) ∗ (∃ W', owes (c : Thread nD τ) 0 W')
    ∗ owns (c : Thread nD τ) (ms0 t) fullShare (XB m c (Ring.bk 16 t.val)) ∗ owns (c : Thread nD τ) (ms1 t) fullShare (WB m c (Ring.bk 16 t.val)))

/-- An even point past the first. -/
theorem step_even (t : Fin cfg0.N) (h : 2 ≤ t.val) (ht : t.val + 1 < 16) (he : t.val % 2 = 0) (W : Waits sig Unit) (K : PUnit → sProp 𝕄) :
    iprop(before m c t W ∗ (after m c t -∗ K ⟨⟩))
      ⊢ wp frame (wpE (defs₀ (F := F)) Variants.none c none) Set.univ (bodyAt0 t) K := by
  obtain ⟨h1, h2, h3, h4, h5, h6⟩ := conds_even t h he
  have run := run_even c (grid0.coords t) (ms0 t) (hs0 t) (ms1 t) (hs1 t) v2M (Memref.isWhole_whole _) vtM (Memref.isWhole_whole _)
    coM (Memref.isWhole_whole _) (ms2 t) (hs2 t) ob0 (Memref.isWhole_whole _) ob1 (Memref.isWhole_whole _)
    tokM (Memref.isWhole_whole _) v2sM (Memref.isWhole_whole _) vtsM (Memref.isWhole_whole _) cbM (Memref.isWhole_whole _)
    (XB m c (Ring.bk 16 t.val)) (WB m c (Ring.bk 16 t.val)) W h1 h2 h3 h4 h5 h6 (PB m c (Ring.bk 16 (t.val - 2))) K
  rw [coords_val t] at run
  unfold before after
  rw [route_mid m c t.val (by omega) (by omega), route_mid m c (t.val + 1) (by omega) (by omega)]
  iintro ⟨⟨HR, HQ, HW, H0, H1⟩, HK⟩
  ihave HR := (ring_even m c t.val h ht he) $$ HR
  icases HR with ⟨⟨HB, HF⟩, HC⟩
  iapply run
  isplitl [H0]; · iexact H0
  isplitl [H1]; · iexact H1
  isplitl [HB]; · iexact HB
  isplitl [HF]; · iexact HF
  isplitl [HW]; · iexact HW
  iintro ⟨H0, H1, HL, HF, HW⟩
  iapply HK
  isplitl [HC HL HF]
  · iapply HC
    isplitl [HL]; · iexact HL
    iexact HF
  isplitl [HQ]; · iexact HQ
  isplitl [HW]; · iexact HW
  isplitl [H0]; · iexact H0
  iexact H1

/-- An odd point past the second, before the last. -/
theorem step_odd (t : Fin cfg0.N) (h : 2 ≤ t.val) (ht : t.val + 1 < 16) (he : t.val % 2 = 1) (W : Waits sig Unit) (K : PUnit → sProp 𝕄) :
    iprop(before m c t W ∗ (after m c t -∗ K ⟨⟩))
      ⊢ wp frame (wpE (defs₀ (F := F)) Variants.none c none) Set.univ (bodyAt0 t) K := by
  obtain ⟨h1, h2, h3, h4, h5, h6⟩ := conds_odd t h ht he
  have run := run_odd c (grid0.coords t) (ms0 t) (hs0 t) (ms1 t) (hs1 t) v2M (Memref.isWhole_whole _) vtM (Memref.isWhole_whole _)
    coM (Memref.isWhole_whole _) (ms2 t) (hs2 t) ob0 (Memref.isWhole_whole _) ob1 (Memref.isWhole_whole _)
    tokM (Memref.isWhole_whole _) v2sM (Memref.isWhole_whole _) vtsM (Memref.isWhole_whole _) cbM (Memref.isWhole_whole _)
    (XB m c (Ring.bk 16 t.val)) (WB m c (Ring.bk 16 t.val)) W h1 h2 h3 h4 h5 h6 (PB m c (Ring.bk 16 (t.val - 2))) K
  rw [coords_val t] at run
  unfold before after
  rw [route_mid m c t.val (by omega) (by omega), route_mid m c (t.val + 1) (by omega) (by omega)]
  iintro ⟨⟨HR, HQ, HW, H0, H1⟩, HK⟩
  ihave HR := (ring_odd m c t.val h ht he) $$ HR
  icases HR with ⟨⟨HB, HF⟩, HC⟩
  iapply run
  isplitl [H0]; · iexact H0
  isplitl [H1]; · iexact H1
  isplitl [HB]; · iexact HB
  isplitl [HF]; · iexact HF
  isplitl [HW]; · iexact HW
  iintro ⟨H0, H1, HL, HF, HW⟩
  iapply HK
  isplitl [HC HL HF]
  · iapply HC
    isplitl [HL]; · iexact HL
    iexact HF
  isplitl [HQ]; · iexact HQ
  isplitl [HW]; · iexact HW
  isplitl [H0]; · iexact H0
  iexact H1

/-- The second point. -/
theorem step_one (t : Fin cfg0.N) (ht : t.val = 1) (W : Waits sig Unit) (K : PUnit → sProp 𝕄) :
    iprop(before m c t W ∗ (after m c t -∗ K ⟨⟩))
      ⊢ wp frame (wpE (defs₀ (F := F)) Variants.none c none) Set.univ (bodyAt0 t) K := by
  obtain ⟨h1, h2, h3, h4, h5, h6⟩ := conds_one t ht
  have run := run_one c (grid0.coords t) (ms0 t) (hs0 t) (ms1 t) (hs1 t) v2M (Memref.isWhole_whole _) vtM (Memref.isWhole_whole _)
    coM (Memref.isWhole_whole _) (ms2 t) (hs2 t) ob0 (Memref.isWhole_whole _) ob1 (Memref.isWhole_whole _)
    tokM (Memref.isWhole_whole _) v2sM (Memref.isWhole_whole _) vtsM (Memref.isWhole_whole _) cbM (Memref.isWhole_whole _)
    (XB m c (Ring.bk 16 t.val)) (WB m c (Ring.bk 16 t.val)) W h1 h2 h3 h4 h5 h6 K
  rw [coords_val t] at run
  unfold before after
  rw [ht] at run ⊢
  rw [route_mid m c 1 (by omega) (by omega), route_mid m c (1 + 1) (by omega) (by omega)]
  iintro ⟨⟨HR, HQ, HW, H0, H1⟩, HK⟩
  ihave HR := (ring_one m c) $$ HR
  icases HR with ⟨⟨HB, HF⟩, HC⟩
  iapply run
  isplitl [H0]; · iexact H0
  isplitl [H1]; · iexact H1
  isplitl [HB]; · iexact HB
  isplitl [HF]; · iexact HF
  isplitl [HW]; · iexact HW
  iintro ⟨H0, H1, HF, HW⟩
  iapply HK
  isplitl [HC HF]
  · iapply HC; iexact HF
  isplitl [HQ]; · iexact HQ
  isplitl [HW]; · iexact HW
  isplitl [H0]; · iexact H0
  iexact H1

/-- The first point. -/
theorem step_zero (t : Fin cfg0.N) (ht : t.val = 0) (W : Waits sig Unit) (K : PUnit → sProp 𝕄) :
    iprop(before m c t W ∗ (after m c t -∗ K ⟨⟩))
      ⊢ wp frame (wpE (defs₀ (F := F)) Variants.none c none) Set.univ (bodyAt0 t) K := by
  obtain ⟨h1, h2, h3, h4, h5, h6⟩ := conds_zero t ht
  have run := run_zero c (grid0.coords t) (ms0 t) (hs0 t) (ms1 t) (hs1 t) v2M (Memref.isWhole_whole _) vtM (Memref.isWhole_whole _)
    coM (Memref.isWhole_whole _) (ms2 t) (hs2 t) ob0 (Memref.isWhole_whole _) ob1 (Memref.isWhole_whole _)
    tokM (Memref.isWhole_whole _) v2sM (Memref.isWhole_whole _) vtsM (Memref.isWhole_whole _) cbM (Memref.isWhole_whole _)
    (XB m c (Ring.bk 16 t.val)) (WB m c (Ring.bk 16 t.val)) W h1 h2 h3 h4 h5 h6 (V m c main_call0_v5) (V m c main_call0_v8) K
  rw [coords_val t] at run
  unfold before after
  rw [ht] at run ⊢
  rw [route_zero, route_mid m c (0 + 1) (by omega) (by omega)]
  unfold restR waitR
  iintro ⟨⟨HR, ⟨⟨Htok, Hv2, Hvt, H3, H4, H6, H7, Hcb, H8⟩, Hco⟩, HW, H0, H1⟩, HK⟩
  ihave HR := (ring_zero m c) $$ HR
  icases HR with ⟨⟨HB, HF⟩, HC⟩
  iapply run
  isplitl [H0]; · iexact H0
  isplitl [H1]; · iexact H1
  isplitl [HB]; · iexact HB
  isplitl [HF]; · iexact HF
  isplitl [Htok]; · iexact Htok
  isplitl [Hv2]; · iexact Hv2
  isplitl [Hvt]; · iexact Hvt
  isplitl [H3]; · iexact H3
  isplitl [H4]; · iexact H4
  isplitl [H6]; · iexact H6
  isplitl [H7]; · iexact H7
  isplitl [HW]; · iexact HW
  iintro ⟨H0, H1, HF, Htok, Hv2, Hvt, HW⟩
  iapply HK
  isplitl [HC HF]
  · iapply HC; iexact HF
  isplitl [Htok Hv2 Hvt Hcb H8 Hco]
  · isplitl [Htok]; · iexact Htok
    isplitl [Hv2]; · iexact Hv2
    isplitl [Hvt]; · iexact Hvt
    isplitl [Hcb]; · iexact Hcb
    isplitl [H8]; · iexact H8
    iexact Hco
  isplitl [HW]; · iexact HW
  isplitl [H0]; · iexact H0
  iexact H1

/-- The last point; it also fills the mask's block. -/
theorem step_last (t : Fin cfg0.N) (ht : t.val = 15) (W : Waits sig Unit) (K : PUnit → sProp 𝕄) :
    iprop(before m c t W ∗ anyP (F := F) c (ms2 t) ∗ (iprop(after m c t ∗ owns (c : Thread nD τ) (ms2 t) fullShare (k0_pay5 (LG m c))) -∗ K ⟨⟩))
      ⊢ wp frame (wpE (defs₀ (F := F)) Variants.none c none) Set.univ (bodyAt0 t) K := by
  obtain ⟨h1, h2, h3, h4, h5, h6⟩ := conds_last t ht
  have run := run_last c (grid0.coords t) (ms0 t) (hs0 t) (ms1 t) (hs1 t) v2M (Memref.isWhole_whole _) vtM (Memref.isWhole_whole _)
    coM (Memref.isWhole_whole _) (ms2 t) (hs2 t) ob0 (Memref.isWhole_whole _) ob1 (Memref.isWhole_whole _)
    tokM (Memref.isWhole_whole _) v2sM (Memref.isWhole_whole _) vtsM (Memref.isWhole_whole _) cbM (Memref.isWhole_whole _)
    (XB m c (Ring.bk 16 t.val)) (WB m c (Ring.bk 16 t.val)) W (by rw [coords_val t, ht]; rfl) h1 h2 h3 h4 h5 h6 (PB m c (Ring.bk 16 (15 - 2))) (PB m c 14) (TOK m c) (Y1 m c) (Y2 m c)
    (V m c main_call0_v5) (V m c main_call0_v8) K
  rw [coords_val t] at run
  unfold before after
  rw [ht] at run ⊢
  rw [route_mid m c 15 (by omega) (by omega), route_end m c (15 + 1) rfl]
  unfold restR waitR
  iintro ⟨⟨HR, ⟨Htok, Hv2, Hvt, Hcb, H8, Hco⟩, HW, H0, H1⟩, Hm, HK⟩
  ihave HR := (ring_last m c) $$ HR
  icases HR with ⟨⟨HB, HF, HG⟩, HC⟩
  iapply run
  isplitl [H0]; · iexact H0
  isplitl [H1]; · iexact H1
  isplitl [HB]; · iexact HB
  isplitl [HF]; · iexact HF
  isplitl [HG]; · iexact HG
  isplitl [Htok]; · iexact Htok
  isplitl [Hv2]; · iexact Hv2
  isplitl [Hvt]; · iexact Hvt
  isplitl [Hcb]; · iexact Hcb
  isplitl [Hco]; · iexact Hco
  isplitl [Hm]; · iexact Hm
  isplitl [H8]; · iexact H8
  isplitl [HW]; · iexact HW
  iintro ⟨H0, H1, HL, HL', HL'', HE, HE', Htok, Hv2, Hvt, H3, H4, H6, H7, Hcb, Hco, Hm, H8, HW⟩
  iapply HK
  isplitr [Hm]; swap; · iexact Hm
  isplitl [HC HL HL' HL'' HE HE']
  · iapply HC
    isplitl [HL]; · iexact HL
    isplitl [HL']; · iexact HL'
    isplitl [HL'']; · iexact HL''
    isplitl [HE]; · iexact HE
    iexact HE'
  isplitl [Htok Hv2 Hvt Hcb H8 Hco H3 H4 H6 H7]
  · isplitr [Hco]; swap; · iexact Hco
    isplitl [Htok]; · iexact Htok
    isplitl [Hv2]; · iexact Hv2
    isplitl [Hvt]; · iexact Hvt
    isplitl [H3]; · iexact H3
    isplitl [H4]; · iexact H4
    isplitl [H6]; · iexact H6
    isplitl [H7]; · iexact H7
    isplitl [Hcb]; · iexact Hcb
    iexact H8
  isplitl [HW]; · iexact HW
  isplitl [H0]; · iexact H0
  iexact H1

end Cert.KernelIdeal.Hand

end
-- ==== Proof.Body.lean ====
/-
  The body at every grid point against what the pipeline asks of it, and the invariant's two ends.
-/
module

public import proofs.«01_k».proof.Proof.Steps
public import Idealize.ShloMosaic.Lib.Pipeline.FrameSuffixV
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Pipeline (Dat BodyObligation)

local notation "𝕄" => MT nD τ sig Unit (Elt F) ℕ (Pipeline.UD sig nD τ) ℕ

variable (m : (ℓ : Loc nD τ sig) → Buf (Elt F) ℓ) (ρ : Dev nD → PrngReg)

/-! ## The proof data -/

/-- On core `c`: the arrays as the region finds them; after the body, the inputs' blocks in place and the mask's block at the
mask of the logits; between points, the ring of blocks and the routing's buffers. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay5 (LG m c)
    | ⟨_ + 3, h⟩ => absurd h (Nat.not_lt.2 (Nat.le_add_left _ _))
  Φ p := iprop(ring m c p.val ∗ route m c p.val)
  q _ := fullShare
  owed _ := 0

/-- The data's arrays are the arrays as the region finds them. -/
theorem A_eq (c : Dev nD) (w : Fin cfg0.W) : (dats m 0 c).A w = V m c (Pipeline.arrRef spec0 w) := by dsimp only [dats]

/-- The input's staging buffer holds its block at every point, -/
theorem before_0 (c : Dev nD) (t : Fin cfg0.N) (d) : (dats m 0 c).before 0 t d = iblk m c 0 t :=
  ((dats m 0 c).before_in_eq_fetched 0 rfl (fun _ => rfl) (fun _ _ _ => rfl) (fun t => by rfl) t d).trans (by rfl)
/-- and the weight's. -/
theorem before_1 (c : Dev nD) (t : Fin cfg0.N) (d) : (dats m 0 c).before 1 t d = iblk m c 1 t :=
  ((dats m 0 c).before_in_eq_fetched 1 rfl (fun _ => rfl) (fun _ _ _ => rfl) (fun t => by rfl) t d).trans (by rfl)

/-- A point is its block's point. -/
theorem ptOf_bk (t : Fin cfg0.N) : ptOf (Ring.bk 16 t.val) = t := by
  have ht : t.val < 16 := lt_of_lt_of_eq t.isLt N_0
  exact Fin.ext (Ring.bk_val (NB := 16) ht)
/-- A point's block of rows is what its window holds, -/
theorem XB_bk (c : Dev nD) (t : Fin cfg0.N) : XB m c (Ring.bk 16 t.val) = iblk m c 0 t := by unfold XB; rw [ptOf_bk]
/-- and so is its block of the weights. -/
theorem WB_bk (c : Dev nD) (t : Fin cfg0.N) : WB m c (Ring.bk 16 t.val) = iblk m c 1 t := by unfold WB; rw [ptOf_bk]

/-! ## The body at a point -/

/-- Any step but the last, from the ring and the routing's buffers. -/
theorem step_any (c : Dev nD) (t : Fin cfg0.N) (ht : t.val ≠ 15) (W : Waits sig Unit) (K : PUnit → sProp 𝕄) :
    iprop(before m c t W ∗ (after m c t -∗ K ⟨⟩))
      ⊢ wp frame (wpE (defs₀ (F := F)) Variants.none c none) Set.univ (bodyAt0 t) K := by
  have h16 : t.val < 16 := lt_of_lt_of_eq t.isLt N_0
  rcases Nat.lt_or_ge t.val 2 with h | h
  · rcases Nat.eq_zero_or_pos t.val with h0 | h0
    · exact step_zero m c t h0 W K
    · exact step_one m c t (by omega) W K
  · rcases Nat.mod_two_eq_zero_or_one t.val with he | he
    · exact step_even m c t h (by omega) he W K
    · exact step_odd m c t h (by omega) he W K

/-- The body at a point before the last: the mask's buffer is left as found. -/
theorem sound_mid (c : Dev nD) (t : Fin cfg0.N) (ht : t.val ≠ 15) :
    iprop((dats m 0 c).Φ t.castSucc ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0 t) fullShare (iblk m c 0 t)
        ∗ owns (c : Thread nD τ) (ms1 t) fullShare (iblk m c 1 t)
        ∗ (∃ d, owns (c : Thread nD τ) (ms2 t) fullShare ((dats m 0 c).before 2 t d)))) := by
  rw [show (dats m 0 c).Φ t.castSucc = iprop(ring m c t.val ∗ route m c t.val) from rfl,
    show (dats m 0 c).Φ t.succ = iprop(ring m c (t.val + 1) ∗ route m c (t.val + 1)) from rfl]
  simp only [before_0, before_1]
  have step := step_any m c t ht
  simp only [before, after, XB_bk, WB_bk] at step
  unfold Dat.owesAt Pipeline.owesWithin
  rw [show (dats m 0 c).owed t.castSucc = 0 from rfl, show (dats m 0 c).owed t.succ = 0 from rfl]
  iintro ⟨⟨HR, HQ⟩, ⟨%W, %hW, HO⟩, ⟨%d0, H0⟩, ⟨%d1, H1⟩, ⟨%d2, H2⟩⟩
  iapply (step W _)
  isplitl [HR HQ HO H0 H1]
  · isplitl [HR]; · iexact HR
    isplitl [HQ]; · iexact HQ
    isplitl [HO]; · iexact HO
    isplitl [H0]; · iexact H0
    iexact H1
  iintro ⟨HR, HQ, ⟨%W', HO⟩, H0, H1⟩
  isplitl [HR HQ]
  · isplitl [HR]; · iexact HR
    iexact HQ
  isplitl [HO]
  · iexists W'; isplitr; · ipureintro; exact fun _ _ => Or.inl trivial
    iexact HO
  isplitl [H0]; · iexact H0
  isplitl [H1]; · iexact H1
  iexists d2; iexact H2

/-- The body at the last point: the mask's buffer is filled. -/
theorem sound_last (c : Dev nD) (t : Fin cfg0.N) (ht : t.val = 15) :
    iprop((dats m 0 c).Φ t.castSucc ∗ (dats m 0 c).owesAt () t.castSucc
      ∗ (∃ d, owns (c : Thread nD τ) (ms0 t) fullShare ((dats m 0 c).before 0 t d))
      ∗ (∃ d, owns (c : Thread nD τ) (ms1 t) fullShare ((dats m 0 c).before 1 t d))
      ∗ (∃ d, owns (c : Thread nD τ) (ms2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (ms0 t) fullShare (iblk m c 0 t)
        ∗ owns (c : Thread nD τ) (ms1 t) fullShare (iblk m c 1 t)
        ∗ owns (c : Thread nD τ) (ms2 t) fullShare (k0_pay5 (LG m c)))) := by
  rw [show (dats m 0 c).Φ t.castSucc = iprop(ring m c t.val ∗ route m c t.val) from rfl,
    show (dats m 0 c).Φ t.succ = iprop(ring m c (t.val + 1) ∗ route m c (t.val + 1)) from rfl]
  simp only [before_0, before_1]
  have step := step_last m c t ht
  simp only [before, after, XB_bk, WB_bk] at step
  unfold Dat.owesAt Pipeline.owesWithin
  rw [show (dats m 0 c).owed t.castSucc = 0 from rfl, show (dats m 0 c).owed t.succ = 0 from rfl]
  iintro ⟨⟨HR, HQ⟩, ⟨%W, %hW, HO⟩, ⟨%d0, H0⟩, ⟨%d1, H1⟩, ⟨%d2, H2⟩⟩
  unfold owns at *
  icases H2 with ⟨%f2, %e2, H2⟩
  iapply (step W _)
  isplitl [HR HQ HO H0 H1]
  · isplitl [HR]; · iexact HR
    isplitl [HQ]; · iexact HQ
    isplitl [HO]; · iexact HO
    isplitl [H0]; · iexact H0
    iexact H1
  isplitl [H2]; · iexists f2; iexact H2
  iintro ⟨⟨HR, HQ, ⟨%W', HO⟩, H0, H1⟩, H2⟩
  isplitl [HR HQ]
  · isplitl [HR]; · iexact HR
    iexact HQ
  isplitl [HO]
  · iexists W'; isplitr; · ipureintro; exact fun _ _ => Or.inl trivial
    iexact HO
  isplitl [H0]; · iexact H0
  isplitl [H1]; · iexact H1
  iexact H2

/-- The table's row for the body is the body. -/
theorem defs₀_row (t : Fin cfg0.N) : defs₀ (F := F) .tc cfg0.body (cfg0.bodyArgs t (cfg0.slots t)) = bodyAt0 t := by
  unfold defs₀; rw [Defs.onTc_tc]

/-- The mask's window is idle at every point but the last. -/
theorem idle_mid : ∀ t : Fin grid0.N, t.val ≠ 15 → cfg0.idle 2 (grid0.coords t) = true := by decide
/-- At the last point it is not idle. -/
theorem idle_last : ∀ t : Fin grid0.N, t.val = 15 → cfg0.idle 2 (grid0.coords t) = false := by decide
/-- It is written back at the last point only. -/
theorem flush_mid (t : Fin cfg0.N) (ht : t.val ≠ 15) : (cfg0.win 2).flush t = false := by
  have h16 : t.val < 16 := lt_of_lt_of_eq t.isLt N_0
  refine Bool.eq_false_iff.mpr fun h => ?_
  have := (flush0_2 t).mp h
  omega

/-- What the pipeline asks of the body at every point. -/
theorem body_obligation (c : Dev nD) :
    BodyObligation (dats (F := F) m 0 c) (defs₀ (F := F)) Variants.none () Set.univ := fun t => by
  rw [bigSep_W0, bigSep_W0, defs₀_row]
  by_cases ht : t.val = 15
  · have e := idle_last t ht
    exact triple_restated (sound_last m c t ht) rfl .rfl fun _ => by
      refine Entails.of_eq ?_
      dsimp only
      rw [show idle0 2 (grid0.coords t) = false from e]
      rfl
  · have e := idle_mid t ht
    exact triple_restated (sound_mid m c t ht) rfl .rfl fun _ => by
      refine Entails.of_eq ?_
      dsimp only
      rw [show idle0 2 (grid0.coords t) = true from e, show (win0 2).flush t = false from flush_mid t ht]
      rfl

end Cert.KernelIdeal.Hand

end
-- ==== Proof.Ends.lean ====
/-
  The invariant's two ends: from the buffers the launch hands over, and back to them with the result's blocks joined.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Pipeline (Dat BodyObligation)

local notation "𝕄" => MT nD τ sig Unit (Elt F) ℕ (Pipeline.UD sig nD τ) ℕ

variable (m : (ℓ : Loc nD τ sig) → Buf (Elt F) ℓ) (ρ : Dev nD → PrngReg)

/-! ## A whole buffer -/

/-- A whole buffer's elements are the buffer. -/
theorem whole_at (c : Dev nD) (b : Ref sig .tc) (f : Buf (Elt F) ((c : Thread nD τ).loc b)) :
    ((Memref.whole b).view.loc (c : Thread nD τ) ↦[(Memref.whole b).view.set]{fullShare} f : sProp 𝕄)
      = (((c : Thread nD τ).loc b) ↦{fullShare} f) := by
  simp only [Memref.view_whole, View.set_whole]
/-- The same at some contents. -/
theorem whole_any (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  simp only [Memref.view_whole, View.set_whole]

/-! ## What the launch hands over -/

/-- The kernel's own semaphores. -/
abbrev osem0 : Fin 5 → SemLoc sig := fun j => (![SemLoc.dma 4, SemLoc.dma 5, SemLoc.dma 6, SemLoc.dma 7, SemLoc.dma 8] : Fin 5 → SemLoc sig) j
/-- The kernel's own semaphores are five different ones, and none is the grid's. -/
theorem ownSemFacts0 : Pipeline.OwnSemFacts spec0 osem0 := by decide
/-- The five semaphores at zero, one by one. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0
        ∗ semVal ((c : Thread nD τ), SemLoc.dma 6) 0 ∗ semVal ((c : Thread nD τ), SemLoc.dma 7) 0
        ∗ semVal ((c : Thread nD τ), SemLoc.dma 8) 0) := by
  rw [Pipeline.ownSems0_eq_of_list c osem0 [0, 1, 2, 3, 4] (by decide) (by decide)]; rfl

/-- The arrays the kernel reads and leaves as they are; -/
def keptRefs : Finset (Ref sig .tc) := {main_call0_v5, main_call0_v8}
/-- The arrays that are only read are none of the windows' arrays. -/
theorem keptRefs_sub : keptRefs ⊆ Pipeline.restRefs sig spec0 := by decide
/-- The two arrays that are only read, one by one. -/
theorem kept_eq (c : Dev nD) (G : (b : Ref sig .tc) → Buf (Elt F) ((c : Thread nD τ).loc b)) :
    (bigSep keptRefs (fun b => ((c : Thread nD τ).loc b) ↦{fullShare} G b) : sProp 𝕄)
      = iprop((((c : Thread nD τ).loc main_call0_v5) ↦{fullShare} G main_call0_v5) ∗ (((c : Thread nD τ).loc main_call0_v8) ↦{fullShare} G main_call0_v8)) := by
  rw [BI.bigSep_eq_bigSepL_of_eq [main_call0_v5, main_call0_v8] (by decide) (by decide)]; rfl
/-- and those it writes. -/
def sentRefs : Finset (Ref sig .tc) := {main_call0_v9_0, main_v0_1}
/-- The arrays the body writes are none of the windows' arrays, nor those that are only read. -/
theorem sentRefs_sub : sentRefs ⊆ Pipeline.restRefs sig spec0 \ keptRefs := by decide
/-- The two arrays the body writes, one by one. -/
theorem sent_eq (c : Dev nD) (G : (b : Ref sig .tc) → Buf (Elt F) ((c : Thread nD τ).loc b)) :
    (bigSep sentRefs (fun b => ((c : Thread nD τ).loc b) ↦{fullShare} G b) : sProp 𝕄)
      = iprop((((c : Thread nD τ).loc main_call0_v9_0) ↦{fullShare} G main_call0_v9_0) ∗ (((c : Thread nD τ).loc main_v0_1) ↦{fullShare} G main_v0_1)) := by
  rw [BI.bigSep_eq_bigSepL_of_eq [main_call0_v9_0, main_v0_1] (by decide) (by decide)]; rfl

/-- What they hold after the run: the blocks made up, and the coefficients. -/
def sentG (c : Dev nD) (b : Ref sig .tc) : Buf (Elt F) ((c : Thread nD τ).loc b) :=
  Function.update (β := fun b : Ref sig .tc => Buf (Elt F) ((c : Thread nD τ).loc b))
    (Function.update (β := fun b : Ref sig .tc => Buf (Elt F) ((c : Thread nD τ).loc b)) (V m c) main_v0_1 (k0_pay4 (LG m c)))
    main_call0_v9_0 (outG (PB m c)) b
/-- After the run the product's array holds the sixteen blocks, -/
theorem sentG_out (c : Dev nD) : sentG m c main_call0_v9_0 = outG (PB m c) := by
  unfold sentG; exact Function.update_self ..
/-- and the scores' array the scores. -/
theorem sentG_coeffs (c : Dev nD) : sentG m c main_v0_1 = k0_pay4 (LG m c) := by
  unfold sentG
  exact (Function.update_of_ne (by decide) _ _).trans (Function.update_self ..)

/-! ## The ends -/

/-- The two staging buffers at rest. -/
theorem free_eq (c : Dev nD) : (bigSep Finset.univ (freeR (F := F) c) : sProp 𝕄)
    = iprop(freeP (F := F) c (SemLoc.dma 4) ob0 ∗ freeP (F := F) c (SemLoc.dma 5) ob1) := Ring.bigSep_fin2 _
/-- The ring before the first step; -/
theorem ring_start (c : Dev nD) : ring m c 0 = iprop(bigSep Finset.univ (fun u => blkP (F := F) c u)
    ∗ freeP (F := F) c (SemLoc.dma 4) ob0 ∗ freeP (F := F) c (SemLoc.dma 5) ob1) := by
  unfold ring
  rw [Ring.AtBΦ_lt _ _ _ _ _ 0 (by omega), Ring.AtB_zero]
  unfold Ring.AtB₀
  rw [free_eq]; rfl
/-- and after the last. -/
theorem ring_stop (c : Dev nD) (p : ℕ) (h : p = 16) : ring m c p
    = iprop(bigSep Finset.univ (fun u => owns (c : Thread nD τ) (outBlk u) fullShare (PB m c u))
    ∗ freeP (F := F) c (SemLoc.dma 4) ob0 ∗ freeP (F := F) c (SemLoc.dma 5) ob1) := by
  unfold ring
  rw [Ring.AtBΦ_end _ _ _ _ _ p h]
  unfold Ring.AtBEnd
  rw [free_eq]; rfl

/-- The invariant before the first point, from what the launch hands over. -/
theorem inv_in (c : Dev nD) : Pipeline.ΦDRV osem0 spec0 keptRefs sentRefs (V m) (V m) c ⊢ (dats (F := F) m 0 c).Φ 0 := by
  rw [show (dats (F := F) m 0 c).Φ 0 = iprop(ring m c 0 ∗ route m c 0) from rfl, ring_start, route_zero]
  unfold Pipeline.ΦDRV restR
  rw [scopedRest0_eq, ownSems_eq, kept_eq, sent_eq]
  simp only [whole_any]
  iintro ⟨⟨H0, H1, H2, H3, H4, H5⟩, ⟨Q4, Q5, Q6, Q7, Q8⟩, ⟨K5, K8⟩, ⟨S0, S1⟩⟩
  ihave B := (split_out c _) $$ S0
  ihave K5' := (Entails.of_eq (whole_at c main_call0_v5 (V m c main_call0_v5)).symm) $$ K5
  ihave K8' := (Entails.of_eq (whole_at c main_call0_v8 (V m c main_call0_v8)).symm) $$ K8
  ihave S1' := (Entails.of_eq (whole_at c main_v0_1 (V m c main_v0_1)).symm) $$ S1
  isplitl [B H0 H1 Q4 Q5]
  · isplitl [B]; · iexact B
    isplitl [H0 Q4]
    · isplitl [H0]; · iexact H0
      iexact Q4
    isplitl [H1]; · iexact H1
    iexact Q5
  isplitr [S1']
  · isplitl [H2]; · iexact H2
    isplitl [H3]; · iexact H3
    isplitl [H4]; · iexact H4
    isplitl [K5']; · iexact K5'
    isplitl [K8']; · iexact K8'
    isplitl [Q6]; · iexact Q6
    isplitl [Q7]; · iexact Q7
    isplitl [H5]; · iexact H5
    iexact Q8
  iexists _; iexact S1'

/-- And after the last point, back to it. -/
theorem inv_out (c : Dev nD) : (dats (F := F) m 0 c).Φ (Fin.last cfg0.N) ⊢ Pipeline.ΦDRV osem0 spec0 keptRefs sentRefs (V m) (sentG m) c := by
  rw [show (dats (F := F) m 0 c).Φ (Fin.last cfg0.N) = iprop(ring m c cfg0.N ∗ route m c cfg0.N) from rfl,
    ring_stop m c cfg0.N N_0, route_end m c cfg0.N N_0]
  unfold Pipeline.ΦDRV restR
  rw [scopedRest0_eq, ownSems_eq, kept_eq, sent_eq, sentG_out, sentG_coeffs]
  simp only [whole_any]
  iintro ⟨⟨B, ⟨H0, Q4⟩, H1, Q5⟩, ⟨H2, H3, H4, K5, K8, Q6, Q7, H5, Q8⟩, S1⟩
  ihave S0 := (join_out c (PB m c)) $$ B
  ihave K5' := (Entails.of_eq (whole_at c main_call0_v5 (V m c main_call0_v5))) $$ K5
  ihave K8' := (Entails.of_eq (whole_at c main_call0_v8 (V m c main_call0_v8))) $$ K8
  ihave S1' := (Entails.of_eq (owns_whole (c : Thread nD τ) main_v0_1 fullShare (k0_pay4 (LG m c)))) $$ S1
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [Q4 Q5 Q6 Q7 Q8]
  · isplitl [Q4]; · iexact Q4
    isplitl [Q5]; · iexact Q5
    isplitl [Q6]; · iexact Q6
    isplitl [Q7]; · iexact Q7
    iexact Q8
  isplitl [K5' K8']
  · isplitl [K5']; · iexact K5'
    iexact K8'
  isplitl [S0]; · iexact S0
  iexact S1'

end Cert.KernelIdeal.Hand

end
-- ==== Proof.Launched.lean ====
/-
  The run: the arrays and the buffers the kernel writes after it, the arguments as launched, every semaphore at zero.
-/
module

public import proofs.«01_k».proof.Proof.Ends

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Idealize.ShloMosaic.Pipeline (Dat BodyObligation)

local notation "𝕄" => MT nD τ sig Unit (Elt F) ℕ (Pipeline.UD sig nD τ) ℕ

variable (m : (ℓ : Loc nD τ sig) → Buf (Elt F) ℓ) (ρ : Dev nD → PrngReg)

/-- Core `c`'s buffers after the region, as a valuation. -/
abbrev V1 (c : Dev nD) : Valuation τ sig (Elt F) :=
  Pipeline.withArrays spec0 c (Pipeline.withR (V0 m c) sentRefs c (sentG m c)) fun w => (dats m 0 c).arrAt w cfg0.N

/-- The program's lines before the region, the region, and the lines after it. -/
theorem main_around : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
/-- Every run ends with the buffers outside the region as the later lines leave them, and every semaphore at zero. -/
theorem run_main : θ_run defs (onTc (τ := τ) (main (F := F))) (s₀ m ρ) (fun r =>
    (∀ c : Dev nD, ∀ b ∈ Pipeline.restRefs sig spec0, r.2.mem ((c : Thread nD τ).loc b)
      = StableHlo.after hostOps1 (V1 m c) (Proc.devRef .tc b)) ∧ r.2.sem = fun _ => 0) :=
  Pipeline.θ_run_frame_dmaR_aroundV (Q' := _) cfgs (dats m) (0 : Fin 1) launch0 osem0 defs₀ Variants.none ownSemFacts0 keptRefs sentRefs
    keptRefs_sub sentRefs_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := sentG m) (hmain := main_around m) (hA := A_eq m) (hin := inv_in m) (hout := inv_out m)
    (hQ' := fun r h => ⟨fun c b hb => by
      have e := (h.1 c).2 b hb
      rw [show List.flatten [hostOps1 (F := F)] = hostOps1 from by simp only [List.flatten_cons, List.flatten_nil, List.append_nil]] at e
      exact e, h.2⟩)

/-- A buffer that is no array of the region, that the region does not send to and that no later line writes is as the region found it. -/
theorem kept_of (c : Dev nD) (b : Ref sig .tc) (hw : (hostOps1 (F := F)).Forall fun op => Proc.devRef .tc b ∉ op.writes)
    (ha : ∀ w, Pipeline.arrRef spec0 w ≠ b) (hs : b ∉ sentRefs) :
    StableHlo.after hostOps1 (V1 m c) (Proc.devRef .tc b) = V m c b := by
  exact (StableHlo.after_of_forall_not_mem (b := Proc.devRef .tc b) _ _ (List.forall_iff_forall_mem.mp hw)).trans
    ((Pipeline.withArrays_of_ne _ c _ _ b ha).trans (Pipeline.withR_of_not_mem _ _ _ _ b hs))

/-- The first argument ends as launched. -/
theorem end_arg0 (c : Dev nD) : StableHlo.after hostOps1 (V1 m c) (Proc.devRef .tc main_arg0) = m ((c : Thread nD τ).loc main_arg0) :=
  (kept_of m c main_arg0 (by
    simp only [hostOps1, List.Forall, StableHlo.nullary_writes, StableHlo.unary_writes, StableHlo.binary_writes, StableHlo.reshape_writes, Finset.mem_singleton]
    repeat' apply And.intro
    all_goals exact StableHlo.devRef_ne_of_ne (by decide)) (by exact (by decide : ∀ w, Pipeline.arrRef spec0 w ≠ main_arg0)) (by decide)).trans (V_main_arg0 m c)
/-- The second argument too, -/
theorem end_arg1 (c : Dev nD) : StableHlo.after hostOps1 (V1 m c) (Proc.devRef .tc main_arg1) = m ((c : Thread nD τ).loc main_arg1) :=
  (kept_of m c main_arg1 (by
    simp only [hostOps1, List.Forall, StableHlo.nullary_writes, StableHlo.unary_writes, StableHlo.binary_writes, StableHlo.reshape_writes, Finset.mem_singleton]
    repeat' apply And.intro
    all_goals exact StableHlo.devRef_ne_of_ne (by decide)) (by exact (by decide : ∀ w, Pipeline.arrRef spec0 w ≠ main_arg1)) (by decide)).trans (V_main_arg1 m c)
/-- the third, -/
theorem end_arg2 (c : Dev nD) : StableHlo.after hostOps1 (V1 m c) (Proc.devRef .tc main_arg2) = m ((c : Thread nD τ).loc main_arg2) :=
  (kept_of m c main_arg2 (by
    simp only [hostOps1, List.Forall, StableHlo.nullary_writes, StableHlo.unary_writes, StableHlo.binary_writes, StableHlo.reshape_writes, Finset.mem_singleton]
    repeat' apply And.intro
    all_goals exact StableHlo.devRef_ne_of_ne (by decide)) (by exact (by decide : ∀ w, Pipeline.arrRef spec0 w ≠ main_arg2)) (by decide)).trans (V_main_arg2 m c)
/-- the fourth -/
theorem end_arg3 (c : Dev nD) : StableHlo.after hostOps1 (V1 m c) (Proc.devRef .tc main_arg3) = m ((c : Thread nD τ).loc main_arg3) :=
  (kept_of m c main_arg3 (by
    simp only [hostOps1, List.Forall, StableHlo.nullary_writes, StableHlo.unary_writes, StableHlo.binary_writes, StableHlo.reshape_writes, Finset.mem_singleton]
    repeat' apply And.intro
    all_goals exact StableHlo.devRef_ne_of_ne (by decide)) (by exact (by decide : ∀ w, Pipeline.arrRef spec0 w ≠ main_arg3)) (by decide)).trans (V_main_arg3 m c)
/-- and the fifth. -/
theorem end_arg4 (c : Dev nD) : StableHlo.after hostOps1 (V1 m c) (Proc.devRef .tc main_arg4) = m ((c : Thread nD τ).loc main_arg4) :=
  (kept_of m c main_arg4 (by
    simp only [hostOps1, List.Forall, StableHlo.nullary_writes, StableHlo.unary_writes, StableHlo.binary_writes, StableHlo.reshape_writes, Finset.mem_singleton]
    repeat' apply And.intro
    all_goals exact StableHlo.devRef_ne_of_ne (by decide)) (by exact (by decide : ∀ w, Pipeline.arrRef spec0 w ≠ main_arg4)) (by decide)).trans (V_main_arg4 m c)

/-- Every run leaves the arguments as launched and every semaphore at zero. -/
theorem run_frame : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨(h.1 c main_arg0 (Pipeline.mem_restRefs_of main_arg0 (by decide) (by decide))).trans (end_arg0 m c),
     (h.1 c main_arg1 (Pipeline.mem_restRefs_of main_arg1 (by decide) (by decide))).trans (end_arg1 m c),
     (h.1 c main_arg2 (Pipeline.mem_restRefs_of main_arg2 (by decide) (by decide))).trans (end_arg2 m c),
     (h.1 c main_arg3 (Pipeline.mem_restRefs_of main_arg3 (by decide) (by decide))).trans (end_arg3 m c),
     (h.1 c main_arg4 (Pipeline.mem_restRefs_of main_arg4 (by decide) (by decide))).trans (end_arg4 m c)⟩, h.2⟩) (run_main m ρ)

end Cert.KernelIdeal.Hand

end
-- ==== Proof.Operands.lean ====
/- What the launch's operands hold, from the arguments' contents. -/
module

public import proofs.«01_k».proof.Proof.Held
public import Idealize.ShloMosaic.Lib.Pointwise
public import Idealize.ShloMosaic.Lib.Pipeline.ValueKit
public import Idealize.ShloMosaic.Lib.Claim
public import Idealize.ShloMosaic.Lib.StableHlo.ReadAt

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (m : (ℓ : Loc nD τ sig) → Buf (Elt Ideal) ℓ) (c : Dev nD)

/-- The flat array's row is a row of one slab of the argument. -/
theorem flat_apply (q : Fin 50432) (d : Fin 768) : V m c main_call0_v0 (ix2 q d)
    = m ((c : Thread nD τ).loc main_arg0) (ix3 (⟨q.val / 256, by omega⟩ : Fin 197) (⟨q.val % 256, by omega⟩ : Fin 256) d) := by
  unfold V V0
  simp only [hostOps0, List.flatten_cons, List.flatten_nil, List.append_nil, List.cons_append, List.nil_append]
  after_reads_at

/-- The weights, transposed and rounded. -/
theorem wt_apply (k : Fin 768) (o : Fin 768) : V m c main_call0_v2 (ix2 k o) = m ((c : Thread nD τ).loc main_arg3) (ix2 o k) := by
  unfold V V0
  simp only [hostOps0, List.flatten_cons, List.flatten_nil, List.append_nil, List.cons_append, List.nil_append]
  after_reads_at

/-- The experts' vectors by columns. -/
theorem y1_apply (k : Fin 768) (q : Fin 1024) : Y1 m c (ix2 k q)
    = m ((c : Thread nD τ).loc main_arg1) (ix3 (⟨q.val / 64, by omega⟩ : Fin 16) k (⟨q.val % 64, by omega⟩ : Fin 64)) := by
  unfold Y1
  unfold V V0
  simp only [hostOps0, List.flatten_cons, List.flatten_nil, List.append_nil, List.cons_append, List.nil_append]
  after_reads_at

/-- The experts' vectors by rows. -/
theorem y2_apply (q : Fin 1024) (d : Fin 768) : Y2 m c (ix2 q d)
    = m ((c : Thread nD τ).loc main_arg1) (ix3 (⟨q.val / 64, by omega⟩ : Fin 16) d (⟨q.val % 64, by omega⟩ : Fin 64)) := by
  unfold Y2
  unfold V V0
  simp only [hostOps0, List.flatten_cons, List.flatten_nil, List.append_nil, List.cons_append, List.nil_append]
  after_reads_at

/-- Window 0's block at a point is the block of that number. -/
theorem idx_x : ∀ t : Fin cfg0.N, win0_0.index t = ![t.val, 0] := (by decide +kernel : ∀ t : Fin grid0.N, _)

/-- Window 1's block at every point is the only one. -/
theorem idx_w : ∀ t : Fin cfg0.N, win0_1.index t = ![0, 0] := (by decide +kernel : ∀ t : Fin grid0.N, _)

/-- Point `u`'s block of the flat array. -/
theorem XB_apply (u : Fin 16) (p : Fin 3152) (d : Fin 768) :
    XB m c u (ix2 p d) = V m c main_call0_v0 (ix2 (⟨3152 * u.val + p.val, by omega⟩ : Fin 50432) d) := by
  unfold XB
  blk_ext [iblk, idx_x (ptOf u)]
  show u.val * 3152 + p.val = 3152 * u.val + p.val
  omega

/-- Every point's block of the weights is the whole of them. -/
theorem WB_apply (u : Fin 16) (k : Fin 768) (o : Fin 768) :
    WB m c u (ix2 k o) = V m c main_call0_v2 (ix2 k o) := by
  unfold WB
  blk_ext [iblk, idx_w (ptOf u)]

end Cert.KernelIdeal.Hand

end
-- ==== Proof.Results.lean ====
/- What the three results hold once the run is over. -/
module

public import proofs.«01_k».proof.Proof.Launched
public import Idealize.ShloMosaic.Lib.Pipeline.ValueKit
public import Idealize.ShloMosaic.Lib.StableHlo.ReadAt

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ) (ρ : Dev nD → PrngReg)

/-! ## The lines after the region, from any contents -/

/-- The first result is the flat array in slabs; -/
theorem tail_out (W : Valuation τ sig (Elt F)) : StableHlo.after hostOps1 W (Proc.devRef .tc main_v0_0)
    = shapeCast S197x256x768 (W (Proc.devRef .tc main_call0_v9_0) : S50432x768.Idx → Elt F .f32) shapeCasts_S50432x768_S197x256x768 := by
  simp only [hostOps1]
  after_reads_simp
  rfl
/-- the second is as the region left it; -/
theorem tail_coeffs (W : Valuation τ sig (Elt F)) : StableHlo.after hostOps1 W (Proc.devRef .tc main_v0_1)
    = W (Proc.devRef .tc main_v0_1) := by
  simp only [hostOps1]
  after_reads_simp
/-- the third says where the region's flags are not zero. -/
theorem tail_mask (W : Valuation τ sig (Elt F)) : StableHlo.after hostOps1 W (Proc.devRef .tc main_v0_2)
    = cmpi .ne (W (Proc.devRef .tc main_call0_v9_2) : S256x16.Idx → BitVec 32) (broadcastInDim S256x16 ![] bcast_S_S256x16 (constantI S_ 32 0#32)) := by
  simp only [hostOps1]
  after_reads_simp
  rfl

/-! ## What the region leaves -/

/-- The flags' array holds what the last point's body wrote. -/
theorem flags_end (c : Dev nD) : (dats m 0 c).arrAt 2 cfg0.N = k0_pay5 (LG m c) := by
  refine (dats m 0 c).arrAt_eq_of_after_last 2 (ptOf 15) (by decide +kernel) _ fun j => ?_
  rfl

/-- When the region ends the flat array holds the sixteen products one under the other, -/
theorem at_out (c : Dev nD) : V1 m c (Proc.devRef .tc main_call0_v9_0) = outG (PB m c) :=
  (Pipeline.withArrays_of_ne _ c _ _ main_call0_v9_0 (by exact (by decide : ∀ w, Pipeline.arrRef spec0 w ≠ main_call0_v9_0))).trans
    ((Pipeline.withR_of_mem _ _ _ _ main_call0_v9_0 (by decide)).trans (sentG_out m c))
/-- the scores' array the scores, -/
theorem at_coeffs (c : Dev nD) : V1 m c (Proc.devRef .tc main_v0_1) = k0_pay4 (LG m c) :=
  (Pipeline.withArrays_of_ne _ c _ _ main_v0_1 (by exact (by decide : ∀ w, Pipeline.arrRef spec0 w ≠ main_v0_1))).trans
    ((Pipeline.withR_of_mem _ _ _ _ main_v0_1 (by decide)).trans (sentG_coeffs m c))
/-- and the flags' array the flags. -/
theorem at_flags (c : Dev nD) : V1 m c (Proc.devRef .tc main_call0_v9_2) = k0_pay5 (LG m c) :=
  (Pipeline.withArrays_arr spec0 launch0.win.arr_inj c _ _ 2).trans (flags_end m c)

/-! ## The results -/

/-- The first result: the sixteen products one under the other, in slabs. -/
def outR (c : Dev nD) : S197x256x768.Idx → Elt F .f32 := shapeCast S197x256x768 (outG (PB m c)) shapeCasts_S50432x768_S197x256x768
/-- The second: the scores. -/
def coeffsR (c : Dev nD) : S256x16.Idx → Elt F .f32 := k0_pay4 (LG m c)
/-- The third: where the flags are not zero. -/
def maskR (c : Dev nD) : S256x16.Idx → BitVec 1 :=
  cmpi .ne (k0_pay5 (LG m c)) (broadcastInDim S256x16 ![] bcast_S_S256x16 (constantI S_ 32 0#32))

/-- Every run ends with the three results at these values and the arguments as launched. -/
theorem run_results : θ_run defs (onTc (τ := τ) (main (F := F))) ⟨m, fun _ => 0, ρ⟩ (fun r => ∀ c : Dev nD,
    r.2.mem ((c : Thread nD τ).loc main_v0_0) = outR m c ∧ r.2.mem ((c : Thread nD τ).loc main_v0_1) = coeffsR m c
      ∧ r.2.mem ((c : Thread nD τ).loc main_v0_2) = maskR m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c =>
    ⟨((h.1 c main_v0_0 (Pipeline.mem_restRefs_of main_v0_0 (by decide) (by decide))).trans (tail_out _)).trans
        (congrArg (fun f : S50432x768.Idx → Elt F .f32 => shapeCast S197x256x768 f shapeCasts_S50432x768_S197x256x768) (at_out m c)),
     ((h.1 c main_v0_1 (Pipeline.mem_restRefs_of main_v0_1 (by decide) (by decide))).trans (tail_coeffs _)).trans (at_coeffs m c),
     ((h.1 c main_v0_2 (Pipeline.mem_restRefs_of main_v0_2 (by decide) (by decide))).trans (tail_mask _)).trans
        (congrArg (fun f : S256x16.Idx → BitVec 32 => cmpi .ne f (broadcastInDim S256x16 ![] bcast_S_S256x16 (constantI S_ 32 0#32))) (at_flags m c)),
     (h.1 c main_arg0 (Pipeline.mem_restRefs_of main_arg0 (by decide) (by decide))).trans (end_arg0 m c),
     (h.1 c main_arg1 (Pipeline.mem_restRefs_of main_arg1 (by decide) (by decide))).trans (end_arg1 m c),
     (h.1 c main_arg2 (Pipeline.mem_restRefs_of main_arg2 (by decide) (by decide))).trans (end_arg2 m c),
     (h.1 c main_arg3 (Pipeline.mem_restRefs_of main_arg3 (by decide) (by decide))).trans (end_arg3 m c),
     (h.1 c main_arg4 (Pipeline.mem_restRefs_of main_arg4 (by decide) (by decide))).trans (end_arg4 m c)⟩) (run_main m ρ)

end Cert.KernelIdeal.Hand

end
-- ==== Proof.Score.lean ====
/- From the squared distances to the scores, read entry by entry: what the kernel and the reference compute in each row. -/
module

public import proofs.«01_k».proof.Proof.Names
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The kernel's logits of the squared distances: `0 - sqrt (s + 1e-12)`. -/
def lgK (s : FVec Ideal S256x16 .f32) : FVec Ideal S256x16 .f32 :=
  subf (broadcast S256x16 (Scalar.ofBits .f32 0x00000000#32)) (sqrt (addf s (broadcast S256x16 (Scalar.ofBits .f32 0x2B8CBCCC#32))))

/-- The kernel's logits less their row's mean. -/
def devK (l : FVec Ideal S256x16 .f32) : FVec Ideal S256x16 .f32 :=
  subf l (broadcastTo S256x16 (divf (shapeCast S256x1 (multiReduction .add [1] S256 l 0x00000000#32 reduces_S256x16_S256 (.inl rfl) rfl)
    shapeCasts_S256_S256x1) (broadcast S256x1 (Scalar.ofBits .f32 0x41800000#32))) broadcasts_S256x1_S256x16)

/-- The kernel's standardised logits, from the logits less their mean. -/
def zK (d : FVec Ideal S256x16 .f32) : FVec Ideal S256x16 .f32 :=
  divf (divf d (broadcastTo S256x16 (addf (sqrt (divf (shapeCast S256x1 (multiReduction .add [1] S256 (mulf d d) 0x00000000#32
    reduces_S256x16_S256 (.inl rfl) rfl) shapeCasts_S256_S256x1) (broadcast S256x1 (Scalar.ofBits .f32 0x41700000#32))))
    (broadcast S256x1 (Scalar.ofBits .f32 0x358637BD#32))) broadcasts_S256x1_S256x16)) (broadcast S256x16 (Scalar.ofBits .f32 0x3F800000#32))

/-- The kernel's standardised logits less their row's greatest. -/
def shK (z : FVec Ideal S256x16 .f32) : FVec Ideal S256x16 .f32 :=
  subf z (broadcastTo S256x16 (shapeCast S256x1 (multiReduction .maximumf [1] S256 z 0xFF800000#32 reduces_S256x16_S256 (.inl rfl) rfl)
    shapeCasts_S256_S256x1) broadcasts_S256x1_S256x16)

end Cert.KernelIdeal.Hand

end
-- ==== Proof.Dist.lean ====
/- The squared distance of a token to an expert's span, as the kernel computes it, read entry by entry. -/
module

public import proofs.«01_k».proof.Proof.Score
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Column `64 e + r` of the 1024, `e` the expert and `r` the rank. -/
abbrev colOf (e : Fin 16) (r : Fin 64) : Fin 1024 := ⟨64 * e.val + r.val, by omega⟩

/-- The tokens projected on every expert's vectors. -/
abbrev projK (tok : FVec Ideal S256x768 .f32) (v2 : FVec Ideal S768x1024 .bf16) : FVec Ideal S256x1024 .f32 := k0_pay6 tok v2

/-- One expert's column: each token's squared distance to what the expert makes of it. -/
def colK (tok : FVec Ideal S256x768 .f32) (u : FVec Ideal S256x64 .f32) (w : FVec Ideal S64x768 .bf16) : FVec Ideal S256x1 .f32 :=
  k0_pay12 tok u w

/-- A piece of the projections: 64 columns from a given one. -/
abbrev pc (P : FVec Ideal S256x1024 .f32) (o : ℕ) (h : S256x1024.Slices ![0, o] S256x64) : FVec Ideal S256x64 .f32 :=
  extractStridedSlice S256x64 ![0, o] P h

/-- A piece of the experts' vectors: 64 rows from a given one. -/
abbrev wn (vt : FVec Ideal S1024x768 .bf16) (o : ℕ) (h : ∀ a, (![o, 0] : Fin 2 → ℕ) a + S64x768.size a ≤ S1024x768.size a) :
    FVec Ideal S64x768 .bf16 := VecWindow.window vt ![o, 0] S64x768.size h

/-- The experts' sixteen columns, in order. -/
def colsK (tok : FVec Ideal S256x768 .f32) (P : FVec Ideal S256x1024 .f32) (vt : FVec Ideal S1024x768 .bf16) : Fin 16 → FVec Ideal S256x1 .f32 :=
  ![
    colK tok (pc P 0 slices_S256x1024_o0_0_S256x64) (wn vt 0 inb_S1024x768_S64x768_0_0),
    colK tok (pc P 64 slices_S256x1024_o0_64_S256x64) (wn vt 64 inb_S1024x768_S64x768_64_0),
    colK tok (pc P 128 slices_S256x1024_o0_128_S256x64) (wn vt 128 inb_S1024x768_S64x768_128_0),
    colK tok (pc P 192 slices_S256x1024_o0_192_S256x64) (wn vt 192 inb_S1024x768_S64x768_192_0),
    colK tok (pc P 256 slices_S256x1024_o0_256_S256x64) (wn vt 256 inb_S1024x768_S64x768_256_0),
    colK tok (pc P 320 slices_S256x1024_o0_320_S256x64) (wn vt 320 inb_S1024x768_S64x768_320_0),
    colK tok (pc P 384 slices_S256x1024_o0_384_S256x64) (wn vt 384 inb_S1024x768_S64x768_384_0),
    colK tok (pc P 448 slices_S256x1024_o0_448_S256x64) (wn vt 448 inb_S1024x768_S64x768_448_0),
    colK tok (pc P 512 slices_S256x1024_o0_512_S256x64) (wn vt 512 inb_S1024x768_S64x768_512_0),
    colK tok (pc P 576 slices_S256x1024_o0_576_S256x64) (wn vt 576 inb_S1024x768_S64x768_576_0),
    colK tok (pc P 640 slices_S256x1024_o0_640_S256x64) (wn vt 640 inb_S1024x768_S64x768_640_0),
    colK tok (pc P 704 slices_S256x1024_o0_704_S256x64) (wn vt 704 inb_S1024x768_S64x768_704_0),
    colK tok (pc P 768 slices_S256x1024_o0_768_S256x64) (wn vt 768 inb_S1024x768_S64x768_768_0),
    colK tok (pc P 832 slices_S256x1024_o0_832_S256x64) (wn vt 832 inb_S1024x768_S64x768_832_0),
    colK tok (pc P 896 slices_S256x1024_o0_896_S256x64) (wn vt 896 inb_S1024x768_S64x768_896_0),
    colK tok (pc P 960 slices_S256x1024_o0_960_S256x64) (wn vt 960 inb_S1024x768_S64x768_960_0)]

/-- The sixteen columns side by side. -/
def sqK (tok : FVec Ideal S256x768 .f32) (P : FVec Ideal S256x1024 .f32) (vt : FVec Ideal S1024x768 .bf16) : FVec Ideal S256x16 .f32 :=
  concatenate S256x16 1 (List.ofFn fun e : Fin 16 => (⟨S256x1, colsK tok P vt e⟩ : (s : Shape) × (s.Idx → Ideal .f32)))
    concatenates_S256x1_S256x1_S256x1_S256x1_S256x1_S256x1_S256x1_S256x1_S256x1_S256x1_S256x1_S256x1_S256x1_S256x1_S256x1_S256x1_S256x16_d1

/-- The kernel's shifted logits are the stages one after the other, from the squared distances. -/
theorem logits_eq (tok : FVec Ideal S256x768 .f32) (v2 : FVec Ideal S768x1024 .bf16) (vt : FVec Ideal S1024x768 .bf16) :
    logits tok v2 vt = shK (zK (devK (lgK (sqK tok (projK tok v2) vt)))) := rfl

/-- A projection: the token's inner product with a column. -/
theorem projK_apply (tok : FVec Ideal S256x768 .f32) (v2 : FVec Ideal S768x1024 .bf16) (n : Fin 256) (q : Fin 1024) :
    projK tok v2 (ix2 n q) = ∑ k : Fin 768, tok (ix2 n k) * v2 (ix2 k q) := by
  pointwise [projK, k0_pay6]

/-- An expert's column at a token: the sum of the squared differences between the token and the expert's combination. -/
theorem colK_apply (tok : FVec Ideal S256x768 .f32) (u : FVec Ideal S256x64 .f32) (w : FVec Ideal S64x768 .bf16) (n : Fin 256) :
    colK tok u w (ix2 n 0) = ∑ d : Fin 768, (tok (ix2 n d) - ∑ r : Fin 64, u (ix2 n r) * w (ix2 r d))
      * (tok (ix2 n d) - ∑ r : Fin 64, u (ix2 n r) * w (ix2 r d)) := by
  pointwise [colK, k0_pay12]

/-- A piece of the projections at an entry. -/
theorem pc_apply (P : FVec Ideal S256x1024 .f32) (o : ℕ) (h : S256x1024.Slices ![0, o] S256x64) (n : Fin 256) (r : Fin 64)
    (q : Fin 1024) (hq : q.val = o + r.val) : pc P o h (ix2 n r) = P (ix2 n q) := by
  refine congrArg P (funext fun a => Fin.ext ?_)
  match a with
  | ⟨0, _⟩ => exact Nat.zero_add _
  | ⟨1, _⟩ => exact hq.symm

/-- A piece of the experts' vectors at an entry. -/
theorem wn_apply (vt : FVec Ideal S1024x768 .bf16) (o : ℕ) (h) (r : Fin 64) (d : Fin 768)
    (q : Fin 1024) (hq : q.val = o + r.val) : wn vt o h (ix2 r d) = vt (ix2 q d) := by
  refine congrArg vt (funext fun a => Fin.ext ?_)
  match a with
  | ⟨0, _⟩ => exact (congrArg (o + ·) (Nat.one_mul _)).trans hq.symm
  | ⟨1, _⟩ => exact (Nat.zero_add _).trans (Nat.one_mul _)

/-- One expert's column, from the pieces at its place. -/
theorem piece_apply (tok : FVec Ideal S256x768 .f32) (P : FVec Ideal S256x1024 .f32) (vt : FVec Ideal S1024x768 .bf16) (n : Fin 256)
    (e : Fin 16) (o : ℕ) (h h') (ho : 64 * e.val = o) : colK tok (pc P o h) (wn vt o h') (ix2 n 0)
      = ∑ d : Fin 768, (tok (ix2 n d) - ∑ r : Fin 64, P (ix2 n (colOf e r)) * vt (ix2 (colOf e r) d))
        * (tok (ix2 n d) - ∑ r : Fin 64, P (ix2 n (colOf e r)) * vt (ix2 (colOf e r) d)) := by
  have key : ∀ d : Fin 768, (∑ r : Fin 64, pc P o h (ix2 n r) * wn vt o h' (ix2 r d))
      = ∑ r : Fin 64, P (ix2 n (colOf e r)) * vt (ix2 (colOf e r) d) := fun d =>
    Finset.sum_congr rfl fun r _ => by
      rw [pc_apply P o h n r (colOf e r) (congrArg (· + r.val) ho), wn_apply vt o h' r d (colOf e r) (congrArg (· + r.val) ho)]
  rw [colK_apply]
  exact Finset.sum_congr rfl fun d _ => by rw [key d]

/-- The squared distances at a token and an expert. -/
theorem sqK_apply (tok : FVec Ideal S256x768 .f32) (P : FVec Ideal S256x1024 .f32) (vt : FVec Ideal S1024x768 .bf16) (n : Fin 256)
    (e : Fin 16) : sqK tok P vt (ix2 n e)
      = ∑ d : Fin 768, (tok (ix2 n d) - ∑ r : Fin 64, P (ix2 n (colOf e r)) * vt (ix2 (colOf e r) d))
        * (tok (ix2 n d) - ∑ r : Fin 64, P (ix2 n (colOf e r)) * vt (ix2 (colOf e r) d)) := by
  refine (concatenate_ofFn_unit_apply (1 : Fin S256x16.rank) (colsK tok P vt) _ rfl rfl (ix2 n e) e rfl (ix2 n 0) ?_).trans ?_
  · intro b hb
    match b, hb with
    | ⟨0, _⟩, _ => rfl
    | ⟨1, _⟩, hb => exact absurd rfl hb
  · match e with
    | ⟨0, _⟩ => exact piece_apply tok P vt n ⟨0, by decide⟩ 0 _ _ rfl
    | ⟨1, _⟩ => exact piece_apply tok P vt n ⟨1, by decide⟩ 64 _ _ rfl
    | ⟨2, _⟩ => exact piece_apply tok P vt n ⟨2, by decide⟩ 128 _ _ rfl
    | ⟨3, _⟩ => exact piece_apply tok P vt n ⟨3, by decide⟩ 192 _ _ rfl
    | ⟨4, _⟩ => exact piece_apply tok P vt n ⟨4, by decide⟩ 256 _ _ rfl
    | ⟨5, _⟩ => exact piece_apply tok P vt n ⟨5, by decide⟩ 320 _ _ rfl
    | ⟨6, _⟩ => exact piece_apply tok P vt n ⟨6, by decide⟩ 384 _ _ rfl
    | ⟨7, _⟩ => exact piece_apply tok P vt n ⟨7, by decide⟩ 448 _ _ rfl
    | ⟨8, _⟩ => exact piece_apply tok P vt n ⟨8, by decide⟩ 512 _ _ rfl
    | ⟨9, _⟩ => exact piece_apply tok P vt n ⟨9, by decide⟩ 576 _ _ rfl
    | ⟨10, _⟩ => exact piece_apply tok P vt n ⟨10, by decide⟩ 640 _ _ rfl
    | ⟨11, _⟩ => exact piece_apply tok P vt n ⟨11, by decide⟩ 704 _ _ rfl
    | ⟨12, _⟩ => exact piece_apply tok P vt n ⟨12, by decide⟩ 768 _ _ rfl
    | ⟨13, _⟩ => exact piece_apply tok P vt n ⟨13, by decide⟩ 832 _ _ rfl
    | ⟨14, _⟩ => exact piece_apply tok P vt n ⟨14, by decide⟩ 896 _ _ rfl
    | ⟨15, _⟩ => exact piece_apply tok P vt n ⟨15, by decide⟩ 960 _ _ rfl
    | ⟨k + 16, hk⟩ => exact absurd hk (by omega)

end Cert.KernelIdeal.Hand

end
-- ==== Proof.RefDist.lean ====
/- The squared distances in the reference's operations, read entry by entry. -/
module

public import proofs.«01_k».proof.Proof.Gen.ReferenceIdeal
public import Idealize.ShloMosaic.Lib.Pointwise

@[expose] public section

noncomputable section

namespace Cert.ReferenceIdeal.Hand

open Cert.ReferenceIdeal Cert.ReferenceIdeal.Gen
open Idealize.ShloMosaic

/-- The reference's tokens: the first slab of the array. -/
def tokH (x : FVec Ideal S197x256x768 .f32) : FVec Ideal S256x768 .f32 :=
  shapeCast S256x768 (extractStridedSlice S1x256x768 ![0, 0, 0] x slices_S197x256x768_S1x256x768_0_0_0) shapeCasts_S1x256x768_S256x768

/-- The tokens projected on the experts' vectors. -/
def projH (t : FVec Ideal S256x768 .f32) (v : FVec Ideal S16x768x64 .f32) : FVec Ideal S256x16x64 .f32 :=
  Host.dotGeneral dot_S256x768_S16x768x64_S256x16x64_1_1_0_02_n_n none t v

/-- What each token keeps outside each expert's span. -/
def resH (t : FVec Ideal S256x768 .f32) (v : FVec Ideal S16x768x64 .f32) : FVec Ideal S256x16x768 .f32 :=
  subf (broadcastInDim S256x16x768 ![0, 1, 2] bcast_S256x1x768_S256x16x768_0_1_2 (broadcastInDim S256x1x768 ![0, 2] bcast_S256x768_S256x1x768_0_2 t))
    (transpose S256x16x768 [2, 0, 1] (Host.dotGeneral dot_S16x768x64_S256x16x64_S16x768x256_2_2_1_0_0_1 none v (projH t v))
      transposes_S16x768x256_S256x16x768_2_0_1)

/-- The squared distances. -/
def sqH (t : FVec Ideal S256x768 .f32) (v : FVec Ideal S16x768x64 .f32) : FVec Ideal S256x16 .f32 :=
  Host.reduceAdd (mulf (resH t v) (resH t v)) (constant S_ .f32 0x00000000#32) reducesTo_S256x16x768_S256x16_d2 h_S_

/-- A token is a row of the first slab. -/
theorem tokH_apply (x : FVec Ideal S197x256x768 .f32) (n : Fin 256) (d : Fin 768) : tokH x (ix2 n d) = x (ix3 0 n d) := by
  pointwise [tokH]

/-- What a token keeps, at an entry. -/
theorem resH_apply (t : FVec Ideal S256x768 .f32) (v : FVec Ideal S16x768x64 .f32) (n : Fin 256) (e : Fin 16) (d : Fin 768) :
    resH t v (ix3 n e d) = t (ix2 n d) - ∑ r : Fin 64, (∑ k : Fin 768, t (ix2 n k) * v (ix3 e k r)) * v (ix3 e d r) := by
  have h : resH t v (ix3 n e d) = t (ix2 n d) - ∑ r : Fin 64, v (ix3 e d r) * (∑ k : Fin 768, t (ix2 n k) * v (ix3 e k r)) := by
    pointwise [resH, projH]
  rw [h]
  exact congrArg (t (ix2 n d) - ·) (Finset.sum_congr rfl fun r _ => mul_comm _ _)

/-- The squared distances at a token and an expert. -/
theorem sqH_apply (t : FVec Ideal S256x768 .f32) (v : FVec Ideal S16x768x64 .f32) (n : Fin 256) (e : Fin 16) :
    sqH t v (ix2 n e) = ∑ d : Fin 768,
      (t (ix2 n d) - ∑ r : Fin 64, (∑ k : Fin 768, t (ix2 n k) * v (ix3 e k r)) * v (ix3 e d r))
        * (t (ix2 n d) - ∑ r : Fin 64, (∑ k : Fin 768, t (ix2 n k) * v (ix3 e k r)) * v (ix3 e d r)) := by
  have h : sqH t v (ix2 n e) = ∑ d : Fin 768, resH t v (ix3 n e d) * resH t v (ix3 n e d) := by
    pointwise [sqH]
  rw [h]
  exact Finset.sum_congr rfl fun d _ => by rw [resH_apply]

end Cert.ReferenceIdeal.Hand

end
-- ==== Proof.RefScore.lean ====
/- From the squared distances to the scores in the reference's operations, and that each stage is the kernel's. -/
module

public import proofs.«01_k».proof.Proof.Score
public import proofs.«01_k».proof.Proof.Gen.ReferenceIdeal
public import Idealize.ShloMosaic.Lib.Pointwise

@[expose] public section

noncomputable section

namespace Cert.ReferenceIdeal.Hand

open Cert.ReferenceIdeal Cert.ReferenceIdeal.Gen
open Idealize.ShloMosaic
open Cert.KernelIdeal.Hand (lgK devK zK shK)
open Cert.KernelIdeal.Gen (k0_pay3)

/-- The reference's logits of the squared distances. -/
def lgH (s : FVec Ideal S256x16 .f32) : FVec Ideal S256x16 .f32 :=
  Host.negf (Host.sqrt (addf s (broadcastInDim S256x16 ![] bcast_S_S256x16 (constant S_ .f32 0x2B8CBCCC#32))))

/-- The reference's logits less their row's mean. -/
def devH (l : FVec Ideal S256x16 .f32) : FVec Ideal S256x16 .f32 :=
  subf l (broadcastInDim S256x16 ![0, 1] bcast_S256x1_S256x16_0_1 (Host.divf (broadcastInDim S256x1 ![0] bcast_S256_S256x1_0
    (Host.reduceAdd l (constant S_ .f32 0x00000000#32) reducesTo_S256x16_S256_d1 h_S_))
    (broadcastInDim S256x1 ![] bcast_S_S256x1 (constant S_ .f32 0x41800000#32))))

/-- The reference's count of degrees of freedom, `16 - 1`. -/
def dofH : FVec Ideal S_ .f32 := subf (constant S_ .f32 0x41800000#32) (sitofp .f32 (constantI S_ 32 1#32))

/-- The reference's variance of each row, from the logits less their mean. -/
def varH (d : FVec Ideal S256x16 .f32) : FVec Ideal S256x1 .f32 :=
  select (broadcastInDim S256x1 ![] bcast_S_S256x1 (cmpf .ogt dofH (constant S_ .f32 0x00000000#32)))
    (Host.divf (broadcastInDim S256x1 ![0] bcast_S256_S256x1_0
      (Host.reduceAdd (mulf d d) (constant S_ .f32 0x00000000#32) reducesTo_S256x16_S256_d1 h_S_))
      (broadcastInDim S256x1 ![] bcast_S_S256x1 dofH))
    (broadcastInDim S256x1 ![] bcast_S_S256x1 (id (constant S_ .f32 0x7FC00000#32)))

/-- The reference's standardised logits, from the logits less their mean. -/
def zH (d : FVec Ideal S256x16 .f32) : FVec Ideal S256x16 .f32 :=
  Host.divf (Host.divf d (broadcastInDim S256x16 ![0, 1] bcast_S256x1_S256x16_0_1 (addf (Host.sqrt (varH d))
    (broadcastInDim S256x1 ![] bcast_S_S256x1 (constant S_ .f32 0x358637BD#32)))))
    (broadcastInDim S256x16 ![] bcast_S_S256x16 (constant S_ .f32 0x3F800000#32))

/-- The reference's standardised logits less their row's greatest. -/
def shH (z : FVec Ideal S256x16 .f32) : FVec Ideal S256x16 .f32 :=
  subf z (broadcastInDim S256x16 ![0, 1] bcast_S256x1_S256x16_0_1 (broadcastInDim S256x1 ![0] bcast_S256_S256x1_0
    (maximumf (broadcastInDim S256 ![] bcast_S_S256 (constant S_ .f32 0xFF800000#32))
      (Host.reduce FloatOps.maximumf z (constant S_ .f32 0xFF800000#32) reducesTo_S256x16_S256_d1 h_S_))))

/-- The reference's scores: each row's exponentials divided by their sum. -/
def pH (s : FVec Ideal S256x16 .f32) : FVec Ideal S256x16 .f32 :=
  Host.divf (Host.exp s) (broadcastInDim S256x16 ![0, 1] bcast_S256x1_S256x16_0_1 (broadcastInDim S256x1 ![0] bcast_S256_S256x1_0
    (Host.reduceAdd (Host.exp s) (constant S_ .f32 0x00000000#32) reducesTo_S256x16_S256_d1 h_S_)))

/-- The two spellings of the logits are one function: `0 - y` is `-y`. -/
theorem lgH_eq (s : FVec Ideal S256x16 .f32) : lgH s = lgK s := by
  funext j
  pointwise [lgH, lgK]
  exact (zero_sub _).symm

/-- The two spellings of the logits less their mean are one function. -/
theorem devH_eq (l : FVec Ideal S256x16 .f32) : devH l = devK l := by
  funext j
  pointwise [devH, devK]

/-- The pattern the kernel divides the squares' sum by is 15. -/
theorem fifteen : Ideal.ofBits .f32 0x41700000#32 = ((15 : ℝ) : EReal) := by
  simp [Ideal.ofBits, Ideal.ieee]
  rw [← EReal.coe_mul]
  norm_num

/-- The pattern both sides divide a row's sum by is 16. -/
theorem sixteen : Ideal.ofBits .f32 0x41800000#32 = ((16 : ℝ) : EReal) := by
  simp [Ideal.ofBits, Ideal.ieee]
  rw [← EReal.coe_mul]
  norm_num

/-- The reference's degrees of freedom are 15, the number the kernel divides by. -/
theorem dofH_apply (j : S_.Idx) : dofH j = Ideal.ofBits .f32 0x41700000#32 := by
  pointwise [dofH]
  rw [fifteen, sixteen]
  have h : FloatOps.sitofp (F := Ideal) .f32 1#32 = ((1 : ℝ) : EReal) := by
    show (((1#32 : BitVec 32).toInt : ℝ) : EReal) = _
    norm_num
  rw [h, ← EReal.coe_sub]
  norm_num

/-- The reference's degrees of freedom are above zero. -/
theorem dofH_pos (j : S_.Idx) : 0 < dofH j := by
  rw [dofH_apply, fifteen]
  exact EReal.coe_pos.2 (by norm_num)

/-- The two spellings of the standardised logits are one function: `16 - 1` is 15, and 15 is above zero. -/
theorem zH_eq (d : FVec Ideal S256x16 .f32) : zH d = zK d := by
  funext j
  pointwise [zH, zK, varH]
  rw [if_pos (dofH_pos _), dofH_apply]

/-- The two spellings of the shifted logits are one function: the greater of `-∞` and `x` is `x`. -/
theorem shH_eq (z : FVec Ideal S256x16 .f32) : shH z = shK z := by
  funext j
  pointwise [shH, shK]
  rw [max_eq_right ((Finset.le_fold_max _).2 (Or.inl le_rfl))]

/-- The two spellings of the scores are one function. -/
theorem pH_eq (s : FVec Ideal S256x16 .f32) : pH s = k0_pay3 s := by
  funext j
  pointwise [pH, k0_pay3]

end Cert.ReferenceIdeal.Hand

end
-- ==== Proof.Values.lean ====
/- The kernel's results from the arguments' contents: the first at an entry, the other two through the reference's squared distances. -/
module

public import proofs.«01_k».proof.Proof.Operands
public import proofs.«01_k».proof.Proof.Results
public import proofs.«01_k».proof.Proof.Dist
public import proofs.«01_k».proof.Proof.RefDist
public import proofs.«01_k».proof.Proof.RefScore

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.ReferenceIdeal.Hand (tokH sqH lgH devH zH shH pH)

variable (m : (ℓ : Loc nD τ sig) → Buf (Elt Ideal) ℓ) (c : Dev nD)

/-- The array, the experts' vectors and the weights as launched. -/
abbrev A0 : S197x256x768.Idx → Ideal .f32 := m ((c : Thread nD τ).loc main_arg0)
abbrev A1 : S16x768x64.Idx → Ideal .f32 := m ((c : Thread nD τ).loc main_arg1)
abbrev A3 : S768x768.Idx → Ideal .f32 := m ((c : Thread nD τ).loc main_arg3)

/-! ## The first result -/

/-- A block's product at an entry. -/
theorem prod_apply (x : S3152x768.Idx → Ideal .f32) (w : S768x768.Idx → Ideal .bf16) (p : Fin 3152) (o : Fin 768) :
    prod (F := Ideal) x w (ix2 p o) = ∑ k : Fin 768, x (ix2 p k) * w (ix2 k o) := by
  pointwise [prod, k0_pay1]

/-- Row `q` of the flat product. -/
theorem outG_apply (q : Fin 50432) (o : Fin 768) : outG (PB m c) (ix2 q o)
    = ∑ k : Fin 768, A0 m c (ix3 (⟨q.val / 256, by omega⟩ : Fin 197) (⟨q.val % 256, by omega⟩ : Fin 256) k) * A3 m c (ix2 o k) := by
  have hu : q.val / 3152 < 16 := by omega
  have hp : q.val % 3152 < 3152 := by omega
  have h : outG (PB m c) (ix2 q o) = prod (XB m c ⟨q.val / 3152, hu⟩) (WB m c ⟨q.val / 3152, hu⟩) (ix2 (⟨q.val % 3152, hp⟩ : Fin 3152) o) := rfl
  rw [h, prod_apply]
  refine Finset.sum_congr rfl fun k _ => ?_
  rw [XB_apply, WB_apply, wt_apply]
  have hq : (⟨3152 * (q.val / 3152) + q.val % 3152, by omega⟩ : Fin 50432) = q := Fin.ext (Nat.div_add_mod _ _)
  have hx := flat_apply m c (⟨3152 * (q.val / 3152) + q.val % 3152, by omega⟩ : Fin 50432) k
  exact congrArg (· * A3 m c (ix2 o k)) ((congrArg (fun q' => V m c main_call0_v0 (ix2 q' k)) hq).trans (flat_apply m c q k))

/-- The first result at an entry: the row's inner product with a row of the weights. -/
theorem outR_apply (a : Fin 197) (n : Fin 256) (o : Fin 768) : outR m c (ix3 a n o)
    = ∑ k : Fin 768, A0 m c (ix3 a n k) * A3 m c (ix2 o k) := by
  have h : outR m c (ix3 a n o) = outG (PB m c) (ix2 (⟨a.val * 256 + n.val, by omega⟩ : Fin 50432) o) := by
    pointwise [outR]
  rw [h, outG_apply]
  refine Finset.sum_congr rfl fun k _ => ?_
  have ha : (⟨(a.val * 256 + n.val) / 256, by omega⟩ : Fin 197) = a := Fin.ext (by show (a.val * 256 + n.val) / 256 = a.val; omega)
  have hn : (⟨(a.val * 256 + n.val) % 256, by omega⟩ : Fin 256) = n := Fin.ext (by show (a.val * 256 + n.val) % 256 = n.val; omega)
  show A0 m c (ix3 (⟨(a.val * 256 + n.val) / 256, _⟩ : Fin 197) (⟨(a.val * 256 + n.val) % 256, _⟩ : Fin 256) k) * _ = _
  rw [ha, hn]

/-! ## The squared distances -/

/-- The kernel's tokens are the reference's. -/
theorem TOK_apply (n : Fin 256) (d : Fin 768) : TOK m c (ix2 n d) = tokH (A0 m c) (ix2 n d) := by
  have h : TOK m c (ix2 n d) = XB m c 0 (ix2 (⟨n.val, by omega⟩ : Fin 3152) d) := by
    have e : TOK m c (ix2 n d) = VecWindow.window (XB m c 0) ![0, 0] S256x768.size inb_S3152x768_S256x768_0_0 (ix2 n d) := by
      unfold TOK toks
      pointwise [k0_pay25]
    rw [e]
    refine congrArg (XB m c 0) (funext fun a => Fin.ext ?_)
    match a with
    | ⟨0, _⟩ => exact (Nat.zero_add _).trans (Nat.one_mul _)
    | ⟨1, _⟩ => exact (Nat.zero_add _).trans (Nat.one_mul _)
  rw [h, XB_apply, flat_apply, Cert.ReferenceIdeal.Hand.tokH_apply]
  have ha : (⟨(3152 * (0 : Fin 16).val + n.val) / 256, by show (3152 * 0 + n.val) / 256 < 197; omega⟩ : Fin 197) = 0 :=
    Fin.ext (by show (3152 * 0 + n.val) / 256 = 0; omega)
  have hn : (⟨(3152 * (0 : Fin 16).val + n.val) % 256, by omega⟩ : Fin 256) = n :=
    Fin.ext (by show (3152 * 0 + n.val) % 256 = n.val; omega)
  show A0 m c (ix3 (⟨(3152 * (0 : Fin 16).val + n.val) / 256, _⟩ : Fin 197) (⟨(3152 * (0 : Fin 16).val + n.val) % 256, _⟩ : Fin 256) d) = _
  rw [ha, hn]

/-- An expert's vector, by its column -/
theorem y1_col (e : Fin 16) (k : Fin 768) (r : Fin 64) : Y1 m c (ix2 k (colOf e r)) = A1 m c (ix3 e k r) := by
  rw [y1_apply]
  have he : (⟨(colOf e r).val / 64, by omega⟩ : Fin 16) = e := Fin.ext (by show (64 * e.val + r.val) / 64 = e.val; omega)
  have hr : (⟨(colOf e r).val % 64, by omega⟩ : Fin 64) = r := Fin.ext (by show (64 * e.val + r.val) % 64 = r.val; omega)
  rw [he, hr]
/-- and by its row. -/
theorem y2_row (e : Fin 16) (d : Fin 768) (r : Fin 64) : Y2 m c (ix2 (colOf e r) d) = A1 m c (ix3 e d r) := by
  rw [y2_apply]
  have he : (⟨(colOf e r).val / 64, by omega⟩ : Fin 16) = e := Fin.ext (by show (64 * e.val + r.val) / 64 = e.val; omega)
  have hr : (⟨(colOf e r).val % 64, by omega⟩ : Fin 64) = r := Fin.ext (by show (64 * e.val + r.val) % 64 = r.val; omega)
  rw [he, hr]

/-- The kernel's squared distances are the reference's. -/
theorem sq_eq : sqK (TOK m c) (projK (TOK m c) (Y1 m c)) (Y2 m c) = sqH (tokH (A0 m c)) (A1 m c) := by
  funext j
  obtain ⟨n, e, rfl⟩ : ∃ (n : Fin 256) (e : Fin 16), j = ix2 n e := ⟨j 0, j 1, eq_ix2 j⟩
  rw [sqK_apply, Cert.ReferenceIdeal.Hand.sqH_apply]
  have key : ∀ d : Fin 768, (∑ r : Fin 64, projK (TOK m c) (Y1 m c) (ix2 n (colOf e r)) * Y2 m c (ix2 (colOf e r) d))
      = ∑ r : Fin 64, (∑ k : Fin 768, tokH (A0 m c) (ix2 n k) * A1 m c (ix3 e k r)) * A1 m c (ix3 e d r) := fun d =>
    Finset.sum_congr rfl fun r _ => by
      rw [projK_apply, y2_row]
      exact congrArg (· * A1 m c (ix3 e d r)) (Finset.sum_congr rfl fun k _ => by rw [TOK_apply, y1_col])
  exact Finset.sum_congr rfl fun d _ => by rw [key d, TOK_apply]

/-! ## The scores and the mask -/

/-- The scores the reference computes of an array and the experts' vectors. -/
abbrev scores (x : S197x256x768.Idx → Ideal .f32) (v : S16x768x64.Idx → Ideal .f32) : FVec Ideal S256x16 .f32 :=
  pH (shH (zH (devH (lgH (sqH (tokH x) v)))))

/-- The kernel's scores are the reference's. -/
theorem scores_eq : k0_pay3 (LG m c) = scores (A0 m c) (A1 m c) := by
  have h : LG m c = shK (zK (devK (lgK (sqH (tokH (A0 m c)) (A1 m c))))) :=
    (logits_eq (TOK m c) (Y1 m c) (Y2 m c)).trans (congrArg (fun s => shK (zK (devK (lgK s)))) (sq_eq m c))
  rw [h]
  unfold scores
  rw [Cert.ReferenceIdeal.Hand.lgH_eq, Cert.ReferenceIdeal.Hand.devH_eq, Cert.ReferenceIdeal.Hand.zH_eq, Cert.ReferenceIdeal.Hand.shH_eq,
    Cert.ReferenceIdeal.Hand.pH_eq]

/-- The second result is the reference's scores. -/
theorem coeffsR_eq : coeffsR m c = scores (A0 m c) (A1 m c) := by
  rw [← scores_eq]
  funext j
  unfold coeffsR
  pointwise [k0_pay4]

/-- A one-bit word widened is not zero exactly where it is one. -/
theorem widened (b : BitVec 1) : Scalar.cmpi .ne (Scalar.extui b : BitVec 32) 0#32 = b := by
  revert b; decide

/-- The third result is where the reference's scores exceed the threshold. -/
theorem maskR_eq (j : S256x16.Idx) : maskR m c j
    = cmpf .ogt (scores (A0 m c) (A1 m c)) (broadcast S256x16 (Scalar.ofBits .f32 0x3E4CCCCD#32)) j := by
  rw [← scores_eq]
  exact widened _

end Cert.KernelIdeal.Hand

end
-- ==== Proof.RefRun.lean ====
/- The reference's results as its stages. -/
module

public import proofs.«01_k».proof.Proof.Gen.ReferenceIdeal.Run
public import proofs.«01_k».proof.Proof.RefDist
public import proofs.«01_k».proof.Proof.RefScore

@[expose] public section

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- The reference's second result is its stages one after the other. -/
theorem coeffs_stages : Cert.ReferenceIdeal.Value.res_main_v37 m c
    = pH (shH (zH (devH (lgH (sqH (tokH (m ((c : Thread nD τ).loc main_arg0))) (m ((c : Thread nD τ).loc main_arg1))))))) := by
  unfold Cert.ReferenceIdeal.Value.res_main_v37
  rfl

/-- The reference's third result: where the second exceeds the threshold. -/
theorem mask_stages : Cert.ReferenceIdeal.Value.res_main_v39 m c
    = cmpf .ogt (pH (shH (zH (devH (lgH (sqH (tokH (m ((c : Thread nD τ).loc main_arg0))) (m ((c : Thread nD τ).loc main_arg1))))))))
      (broadcastInDim S256x16 ![] bcast_S_S256x16 (constant S_ .f32 0x3E4CCCCD#32)) := by
  unfold Cert.ReferenceIdeal.Value.res_main_v39
  rfl

/-- The reference's first result at an entry, the bias zero everywhere: the row's inner product with a row of the weights. -/
theorem out_apply (x : FVec Ideal S197x256x768 .f32) (w : FVec Ideal S768x768 .f32) (b : FVec Ideal S768 .f32) (hb : ∀ i, b i = 0)
    (a : Fin 197) (n : Fin 256) (o : Fin 768) :
    addf (Host.dotGeneral dot_S197x256x768_S768x768_S197x256x768_2_1_01_0_n_n none x w)
      (broadcastInDim S197x256x768 ![0, 1, 2] bcast_S1x1x768_S197x256x768_0_1_2 (broadcastInDim S1x1x768 ![2] bcast_S768_S1x1x768_2 b)) (ix3 a n o)
      = ∑ k : Fin 768, x (ix3 a n k) * w (ix2 o k) := by
  pointwise
  rw [hb, add_zero]

end Cert.ReferenceIdeal.Hand

end
-- ==== Proof.Equation.lean ====
/- From memories that agree on the arguments, the bias zero, the reference's results are the kernel's. -/
module

public import proofs.«01_k».proof.Proof.Values
public import proofs.«01_k».proof.Proof.RefRun

@[expose] public section

noncomputable section

namespace Cert.Equation

open Idealize.ShloMosaic Idealize.ShloMosaic.TcCoe
open Cert.KernelIdeal (nD τ main_arg0 main_arg1 main_arg3)
open Cert.KernelIdeal.Hand (outR coeffsR maskR A0 A1 A3)

variable (m : (ℓ : Loc Cert.KernelIdeal.nD Cert.KernelIdeal.τ Cert.KernelIdeal.sig) → Buf (Elt Ideal) ℓ) (c : Dev Cert.KernelIdeal.nD)
variable (m' : (ℓ : Loc Cert.ReferenceIdeal.nD Cert.ReferenceIdeal.τ Cert.ReferenceIdeal.sig) → Buf (Elt Ideal) ℓ)

/-- The reference's arguments. -/
abbrev R0 : Cert.ReferenceIdeal.S197x256x768.Idx → Ideal .f32 := m' ((c.tc : Thread Cert.ReferenceIdeal.nD Cert.ReferenceIdeal.τ).loc Cert.ReferenceIdeal.main_arg0)
abbrev R1 : Cert.ReferenceIdeal.S16x768x64.Idx → Ideal .f32 := m' ((c.tc : Thread Cert.ReferenceIdeal.nD Cert.ReferenceIdeal.τ).loc Cert.ReferenceIdeal.main_arg1)
abbrev R3 : Cert.ReferenceIdeal.S768x768.Idx → Ideal .f32 := m' ((c.tc : Thread Cert.ReferenceIdeal.nD Cert.ReferenceIdeal.τ).loc Cert.ReferenceIdeal.main_arg3)
abbrev R4 : Cert.ReferenceIdeal.S768.Idx → Ideal .f32 := m' ((c.tc : Thread Cert.ReferenceIdeal.nD Cert.ReferenceIdeal.τ).loc Cert.ReferenceIdeal.main_arg4)

/-- The first result: the array times the weights, with a bias of zeros. -/
theorem out_eq (h0 : R0 c m' = A0 m c) (h3 : R3 c m' = A3 m c) (hb : ∀ i, R4 c m' i = 0) :
    addf (Host.dotGeneral Cert.ReferenceIdeal.dot_S197x256x768_S768x768_S197x256x768_2_1_01_0_n_n none (R0 c m') (R3 c m'))
      (broadcastInDim Cert.ReferenceIdeal.S197x256x768 ![0, 1, 2] Cert.ReferenceIdeal.Facts₀.bcast_S1x1x768_S197x256x768_0_1_2
        (broadcastInDim Cert.ReferenceIdeal.S1x1x768 ![2] Cert.ReferenceIdeal.Facts₀.bcast_S768_S1x1x768_2 (R4 c m'))) = outR m c := by
  funext j
  obtain ⟨a, n, o, rfl⟩ : ∃ (a : Fin 197) (n : Fin 256) (o : Fin 768), j = ix3 a n o := ⟨j 0, j 1, j 2, eq_ix3 j⟩
  rw [Cert.ReferenceIdeal.Hand.out_apply _ _ _ hb, Cert.KernelIdeal.Hand.outR_apply, h0, h3]

/-- The second result: the scores. -/
theorem coeffs_eq (h0 : R0 c m' = A0 m c) (h1 : R1 c m' = A1 m c) : Cert.ReferenceIdeal.Value.res_main_v37 m' c = coeffsR m c := by
  rw [Cert.KernelIdeal.Hand.coeffsR_eq, ← h0, ← h1]
  exact Cert.ReferenceIdeal.Hand.coeffs_stages m' c

/-- The third result: where the scores exceed the threshold. -/
theorem mask_eq (h0 : R0 c m' = A0 m c) (h1 : R1 c m' = A1 m c) : Cert.ReferenceIdeal.Value.res_main_v39 m' c = maskR m c := by
  refine (Cert.ReferenceIdeal.Hand.mask_stages m' c).trans (funext fun j => ?_)
  rw [Cert.KernelIdeal.Hand.maskR_eq, ← h0, ← h1]
  rfl

end Cert.Equation

end
-- ==== Proof.lean ====
/-
  The claim, assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_bias_is_zero
public import proofs.«01_k».proof.Proof.Launched
public import proofs.«01_k».proof.Proof.Plain.Launched
public import proofs.«01_k».proof.Proof.Equation
public import Idealize.ShloMosaic.Adequacy
public import Idealize.ShloMosaic.Init
public import Idealize.ShloMosaic.Lib.Pointwise

@[expose] public section

noncomputable section

namespace Cert.Proof

open Idealize.ShloMosaic Idealize.SL.Sem

/-- The kernel, at its own float widths: it runs, keeps its arguments and ends with every semaphore at zero. -/
theorem frame_p : Cert.quiescent_Kernel := fun m g _ => Cert.Kernel.Hand.run_frame m g
/-- The same with the floats as extended reals. -/
theorem frame_pi : Cert.quiescent_KernelIdeal := fun m g _ => Cert.KernelIdeal.Hand.run_frame m g
/-- The reference runs and keeps its arguments; it declares no semaphore. -/
theorem frame_ri : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- Where the bias compares equal to zero everywhere, it is zero everywhere. -/
theorem bias_zero (x0 x1 x2 x3) (b : FVec Ideal Cert.Pre_bias_is_zero.S768 .f32)
    (h : Cert.Pre_bias_is_zero.fn x0 x1 x2 x3 b = fun _ => 1#1) (i : Cert.Pre_bias_is_zero.S768.Idx) : b i = 0 := by
  have e := congrFun h i
  pointwise [Cert.Pre_bias_is_zero.fn] at e
  by_contra hne
  rw [decide_eq_false hne] at e
  exact absurd e (by decide)

/-- Over the extended reals, the bias zero, the kernel and the reference end with the same three results. -/
theorem equal : Cert.algebraic_KernelIdeal_ReferenceIdeal_pre_bias_is_zero := fun m g m' g' hpre hargs =>
  ⟨fun c => Cert.KernelIdeal.Hand.outR m c, fun c => Cert.KernelIdeal.Hand.coeffsR m c, fun c => Cert.KernelIdeal.Hand.maskR m c,
    Cert.KernelIdeal.Hand.run_results m g,
    (θ_run Cert.ReferenceIdeal.defs _ _).mono (fun r h c =>
      ⟨(h c).1.trans (Cert.Equation.out_eq m c m' (hargs c).1 (hargs c).2.2.2.1 fun i =>
          (congrFun (hargs c).2.2.2.2 i).trans (bias_zero _ _ _ _ _ (hpre c) i)),
       (h c).2.1.trans (Cert.Equation.coeffs_eq m c m' (hargs c).1 (hargs c).2.1),
       (h c).2.2.1.trans (Cert.Equation.mask_eq m c m' (hargs c).1 (hargs c).2.1),
       (h c).2.2.2⟩) (Cert.ReferenceIdeal.Value.run (F := Ideal) m' g')⟩

/-- Everything claimed. -/
theorem claim : Cert.Claim := ⟨Cert.Kernel.Gen.facts, Cert.KernelIdeal.Gen.facts, Cert.ReferenceIdeal.Gen.facts, Cert.Pre_bias_is_zero.Gen.facts,
  frame_p, frame_pi, fun m g _ => frame_pi m g trivial, frame_ri, fun m g _ => frame_ri m g trivial, trivial, equal⟩

end Cert.Proof

end
